-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v22) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v69) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v234) = v0 c
          ∧ r.2.mem ((c.tc : Thread Cert.Reference5Ideal.nD Cert.Reference5Ideal.τ).loc Cert.Reference5Ideal.main_v235) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v234) = v0 c
          ∧ r.2.mem ((c.tc : Thread Cert.Reference6Ideal.nD Cert.Reference6Ideal.τ).loc Cert.Reference6Ideal.main_v236) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16384x2048 : Shape := ⟨2, ![16384, 2048]⟩
abbrev S2048 : Shape := ⟨1, ![2048]⟩
abbrev S10752x2048 : Shape := ⟨2, ![10752, 2048]⟩
abbrev S1x2048 : Shape := ⟨2, ![1, 2048]⟩
abbrev S16384x9216 : Shape := ⟨2, ![16384, 9216]⟩
abbrev S16384x1152 : Shape := ⟨2, ![16384, 1152]⟩
abbrev S32768x128 : Shape := ⟨2, ![32768, 128]⟩
abbrev S8x64x2048 : Shape := ⟨3, ![8, 64, 2048]⟩
abbrev S1024x2048 : Shape := ⟨2, ![1024, 2048]⟩
abbrev S1536x2048 : Shape := ⟨2, ![1536, 2048]⟩
abbrev S1024x1536 : Shape := ⟨2, ![1024, 1536]⟩
abbrev S1024x1152 : Shape := ⟨2, ![1024, 1152]⟩
abbrev S2048x128 : Shape := ⟨2, ![2048, 128]⟩
abbrev S1x64x1024 : Shape := ⟨3, ![1, 64, 1024]⟩
abbrev S1024 : Shape := ⟨1, ![1024]⟩
abbrev S1024x1 : Shape := ⟨2, ![1024, 1]⟩
abbrev S1024x128 : Shape := ⟨2, ![1024, 128]⟩
abbrev S128x128 : Shape := ⟨2, ![128, 128]⟩
abbrev S64x128 : Shape := ⟨2, ![64, 128]⟩
abbrev S1x64x128 : Shape := ⟨3, ![1, 64, 128]⟩

abbrev nBuf : Space → Nat
  | .hbm => 9
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S10752x2048, .bf16⟩
  | .hbm, ⟨3, _⟩ => ⟨S1x2048, .f32⟩
  | .hbm, ⟨4, _⟩ => ⟨S16384x9216, .bf16⟩
  | .hbm, ⟨5, _⟩ => ⟨S16384x1152, .f32⟩
  | .hbm, ⟨6, _⟩ => ⟨S32768x128, .f32⟩
  | .hbm, ⟨7, _⟩ => ⟨S32768x128, .f32⟩
  | .hbm, ⟨8, _⟩ => ⟨S8x64x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1536x2048, .bf16⟩
  | .local _ .vmem, ⟨4, _⟩ => ⟨S1536x2048, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1152, .f32⟩
  | .local _ .vmem, ⟨8, _⟩ => ⟨S1024x1152, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S1x64x1024, .f32⟩
  | .local _ .vmem, ⟨14, _⟩ => ⟨S1x64x1024, .f32⟩
  | .local _ .vmem, ⟨15, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v3 : BitVec 1 := Scalar.cmpi .slt arg1 c6_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c6_i32_2 : BitVec 32 := 6#32
  let v6 : BitVec 1 := Scalar.cmpi .eq arg1 c6_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16384x2048 : Shape := ⟨2, ![16384, 2048]⟩
abbrev S2048 : Shape := ⟨1, ![2048]⟩
abbrev S10752x2048 : Shape := ⟨2, ![10752, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x10752 : Shape := ⟨2, ![2048, 10752]⟩
abbrev S16384x10752 : Shape := ⟨2, ![16384, 10752]⟩
abbrev S16384x9216 : Shape := ⟨2, ![16384, 9216]⟩
abbrev S16384x1152 : Shape := ⟨2, ![16384, 1152]⟩
abbrev S16384x256 : Shape := ⟨2, ![16384, 256]⟩
abbrev S32768x128 : Shape := ⟨2, ![32768, 128]⟩
abbrev S16384x64 : Shape := ⟨2, ![16384, 64]⟩
abbrev S8x2048x64 : Shape := ⟨3, ![8, 2048, 64]⟩
abbrev S8x64x2048 : Shape := ⟨3, ![8, 64, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S10752x2048, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S10752x2048, .f32⟩
  | .hbm, ⟨20, _⟩ => ⟨S2048x10752, .f32⟩
  | .hbm, ⟨21, _⟩ => ⟨S16384x10752, .f32⟩
  | .hbm, ⟨22, _⟩ => ⟨S16384x9216, .f32⟩
  | .hbm, ⟨23, _⟩ => ⟨S16384x9216, .bf16⟩
  | .hbm, ⟨24, _⟩ => ⟨S16384x1152, .f32⟩
  | .hbm, ⟨25, _⟩ => ⟨S16384x256, .f32⟩
  | .hbm, ⟨26, _⟩ => ⟨S32768x128, .f32⟩
  | .hbm, ⟨27, _⟩ => ⟨S16384x256, .f32⟩
  | .hbm, ⟨28, _⟩ => ⟨S32768x128, .f32⟩
  | .hbm, ⟨29, _⟩ => ⟨S16384x64, .f32⟩
  | .hbm, ⟨30, _⟩ => ⟨S8x2048x64, .f32⟩
  | .hbm, ⟨31, _⟩ => ⟨S8x64x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel2.lean ====
abbrev S16384x9216 : Shape := ⟨2, ![16384, 9216]⟩
abbrev S16384x1024 : Shape := ⟨2, ![16384, 1024]⟩
abbrev S16384x2048 : Shape := ⟨2, ![16384, 2048]⟩
abbrev S1024x2048 : Shape := ⟨2, ![1024, 2048]⟩
abbrev S1024x1024 : Shape := ⟨2, ![1024, 1024]⟩
abbrev S2048x2048 : Shape := ⟨2, ![2048, 2048]⟩
abbrev S1024 : Shape := ⟨1, ![1024]⟩
abbrev S2048 : Shape := ⟨1, ![2048]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 24
  | .smem => 0
  | _ => 0

abbrev bufTy : (tb : Table) → Fin (tcTables nBuf tb) → BufTy
  | .hbm, ⟨0, _⟩ => ⟨S16384x9216, .bf16⟩
  | .hbm, ⟨1, _⟩ => ⟨S16384x1024, .f32⟩
  | .hbm, ⟨2, _⟩ => ⟨S16384x1024, .f32⟩
  | .hbm, ⟨3, _⟩ => ⟨S16384x2048, .f32⟩
  | .hbm, ⟨4, _⟩ => ⟨S1024x2048, .f32⟩
  | .hbm, ⟨5, _⟩ => ⟨S1024x1024, .f32⟩
  | .hbm, ⟨6, _⟩ => ⟨S1024x2048, .f32⟩
  | .hbm, ⟨7, _⟩ => ⟨S2048x2048, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2048, .f32⟩
  | .hbm, ⟨12, _⟩ => ⟨S1024x2048, .bf16⟩
  | .hbm, ⟨13, _⟩ => ⟨S1024x1024, .bf16⟩
  | .hbm, ⟨14, _⟩ => ⟨S1024x2048, .bf16⟩
  | .hbm, ⟨15, _⟩ => ⟨S2048x2048, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x2048, .f32⟩
  | .hbm, ⟨20, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1024x2048, .bf16⟩
  | .local _ .vmem, ⟨15, _⟩ => ⟨S1024x1024, .bf16⟩
  | .local _ .vmem, ⟨16, _⟩ => ⟨S1024x2048, .bf16⟩
  | .local _ .vmem, ⟨17, _⟩ => ⟨S2048x2048, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x2048, .f32⟩
  | .local _ .vmem, ⟨22, _⟩ => ⟨S256x2048, .f32⟩
  | .local _ .vmem, ⟨23, _⟩ => ⟨S256x2048, .f32⟩
  | _, _ => ⟨S16384x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel2Ideal.lean ====
abbrev S16384x9216 : Shape := ⟨2, ![16384, 9216]⟩
abbrev S16384x1024 : Shape := ⟨2, ![16384, 1024]⟩
abbrev S16384x2048 : Shape := ⟨2, ![16384, 2048]⟩
abbrev S1024x2048 : Shape := ⟨2, ![1024, 2048]⟩
abbrev S1024x1024 : Shape := ⟨2, ![1024, 1024]⟩
abbrev S2048x2048 : Shape := ⟨2, ![2048, 2048]⟩
abbrev S1024 : Shape := ⟨1, ![1024]⟩
abbrev S2048 : Shape := ⟨1, ![2048]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 24
  | .smem => 0
  | _ => 0

abbrev bufTy : (tb : Table) → Fin (tcTables nBuf tb) → BufTy
  | .hbm, ⟨0, _⟩ => ⟨S16384x9216, .bf16⟩
  | .hbm, ⟨1, _⟩ => ⟨S16384x1024, .f32⟩
  | .hbm, ⟨2, _⟩ => ⟨S16384x1024, .f32⟩
  | .hbm, ⟨3, _⟩ => ⟨S16384x2048, .f32⟩
  | .hbm, ⟨4, _⟩ => ⟨S1024x2048, .f32⟩
  | .hbm, ⟨5, _⟩ => ⟨S1024x1024, .f32⟩
  | .hbm, ⟨6, _⟩ => ⟨S1024x2048, .f32⟩
  | .hbm, ⟨7, _⟩ => ⟨S2048x2048, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2048, .f32⟩
  | .hbm, ⟨12, _⟩ => ⟨S1024x2048, .bf16⟩
  | .hbm, ⟨13, _⟩ => ⟨S1024x1024, .bf16⟩
  | .hbm, ⟨14, _⟩ => ⟨S1024x2048, .bf16⟩
  | .hbm, ⟨15, _⟩ => ⟨S2048x2048, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x2048, .f32⟩
  | .hbm, ⟨20, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1024x2048, .bf16⟩
  | .local _ .vmem, ⟨15, _⟩ => ⟨S1024x1024, .bf16⟩
  | .local _ .vmem, ⟨16, _⟩ => ⟨S1024x2048, .bf16⟩
  | .local _ .vmem, ⟨17, _⟩ => ⟨S2048x2048, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x2048, .f32⟩
  | .local _ .vmem, ⟨22, _⟩ => ⟨S256x2048, .f32⟩
  | .local _ .vmem, ⟨23, _⟩ => ⟨S256x2048, .f32⟩
  | _, _ => ⟨S16384x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16384x9216 : Shape := ⟨2, ![16384, 9216]⟩
abbrev S16384x1024 : Shape := ⟨2, ![16384, 1024]⟩
abbrev S16384x2048 : Shape := ⟨2, ![16384, 2048]⟩
abbrev S1024x2048 : Shape := ⟨2, ![1024, 2048]⟩
abbrev S1024x1024 : Shape := ⟨2, ![1024, 1024]⟩
abbrev S2048x2048 : Shape := ⟨2, ![2048, 2048]⟩
abbrev S1024 : Shape := ⟨1, ![1024]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x2048 : Shape := ⟨2, ![1, 2048]⟩

abbrev nBuf : Space → Nat
  | .hbm => 118
  | .vmem => 0
  | .smem => 0
  | _ => 0

abbrev bufTy : (tb : Table) → Fin (tcTables nBuf tb) → BufTy
  | .hbm, ⟨0, _⟩ => ⟨S16384x9216, .bf16⟩
  | .hbm, ⟨1, _⟩ => ⟨S16384x1024, .f32⟩
  | .hbm, ⟨2, _⟩ => ⟨S16384x1024, .f32⟩
  | .hbm, ⟨3, _⟩ => ⟨S16384x2048, .f32⟩
  | .hbm, ⟨4, _⟩ => ⟨S1024x2048, .f32⟩
  | .hbm, ⟨5, _⟩ => ⟨S1024x1024, .f32⟩
  | .hbm, ⟨6, _⟩ => ⟨S1024x2048, .f32⟩
  | .hbm, ⟨7, _⟩ => ⟨S2048x2048, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2048, .f32⟩
  | .hbm, ⟨12, _⟩ => ⟨S16384x9216, .f32⟩
  | .hbm, ⟨13, _⟩ => ⟨S16384x1024, .f32⟩
  | .hbm, ⟨14, _⟩ => ⟨S16384x1024, .f32⟩
  | .hbm, ⟨15, _⟩ => ⟨S16384x2048, .f32⟩
  | .hbm, ⟨16, _⟩ => ⟨S16384x2048, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x2048, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x2048, .f32⟩
  | .hbm, ⟨81, _⟩ => ⟨S16384x2048, .f32⟩
  | .hbm, ⟨82, _⟩ => ⟨S16384x2048, .f32⟩
  | .hbm, ⟨83, _⟩ => ⟨S_, .f32⟩
  | .hbm, ⟨84, _⟩ => ⟨S16384x2048, .f32⟩
  | .hbm, ⟨85, _⟩ => ⟨S16384x2048, .f32⟩
  | .hbm, ⟨86, _⟩ => ⟨S_, .f32⟩
  | .hbm, ⟨87, _⟩ => ⟨S16384x2048, .f32⟩
  | .hbm, ⟨88, _⟩ => ⟨S16384x2048, .f32⟩
  | .hbm, ⟨89, _⟩ => ⟨S16384x2048, .f32⟩
  | .hbm, ⟨90, _⟩ => ⟨S16384x2048, .f32⟩
  | .hbm, ⟨91, _⟩ => ⟨S16384x2048, .f32⟩
  | .hbm, ⟨92, _⟩ => ⟨S_, .f32⟩
  | .hbm, ⟨93, _⟩ => ⟨S16384x2048, .f32⟩
  | .hbm, ⟨94, _⟩ => ⟨S16384x2048, .f32⟩
  | .hbm, ⟨95, _⟩ => ⟨S_, .f32⟩
  | .hbm, ⟨96, _⟩ => ⟨S16384x2048, .f32⟩
  | .hbm, ⟨97, _⟩ => ⟨S16384x2048, .f32⟩
  | .hbm, ⟨98, _⟩ => ⟨S16384x2048, .f32⟩
  | .hbm, ⟨99, _⟩ => ⟨S16384x2048, .f32⟩
  | .hbm, ⟨100, _⟩ => ⟨S16384x2048, .f32⟩
  | .hbm, ⟨101, _⟩ => ⟨S16384x2048, .f32⟩
  | .hbm, ⟨102, _⟩ => ⟨S16384x2048, .f32⟩
  | .hbm, ⟨103, _⟩ => ⟨S_, .f32⟩
  | .hbm, ⟨104, _⟩ => ⟨S16384, .f32⟩
  | .hbm, ⟨105, _⟩ => ⟨S16384x1, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S16384x1, .f32⟩
  | .hbm, ⟨113, _⟩ => ⟨S16384x2048, .f32⟩
  | .hbm, ⟨114, _⟩ => ⟨S16384x2048, .f32⟩
  | .hbm, ⟨115, _⟩ => ⟨S1x2048, .f32⟩
  | .hbm, ⟨116, _⟩ => ⟨S16384x2048, .f32⟩
  | .hbm, ⟨117, _⟩ => ⟨S16384x2048, .f32⟩
  | _, _ => ⟨S16384x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_call2_v5 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_4 : Ref sig .tc := ⟨.hbm, 83, rfl⟩
abbrev main_v42 : Ref sig .tc := ⟨.hbm, 84, rfl⟩
abbrev main_v43 : Ref sig .tc := ⟨.hbm, 85, rfl⟩
abbrev main_cst_5 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_6 : Ref sig .tc := ⟨.hbm, 92, rfl⟩
abbrev main_v49 : Ref sig .tc := ⟨.hbm, 93, rfl⟩
abbrev main_v50 : Ref sig .tc := ⟨.hbm, 94, rfl⟩
abbrev main_cst_7 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_8 : Ref sig .tc := ⟨.hbm, 103, rfl⟩
abbrev main_v58 : Ref sig .tc := ⟨.hbm, 104, rfl⟩
abbrev main_v59 : Ref sig .tc := ⟨.hbm, 105, rfl⟩
abbrev main_cst_9 : Ref sig .tc := ⟨.hbm, 106, rfl⟩
abbrev main_v60 : Ref sig .tc := ⟨.hbm, 107, rfl⟩
abbrev main_v61 : Ref sig .tc := ⟨.hbm, 108, rfl⟩
abbrev main_cst_10 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩

abbrev nD : Nat := 1
abbrev τ : Topo := Topo.v7x

variable {F : FTy → Type} [FloatOps F]
-- ==== Kernel3.lean ====
abbrev S1024x2048 : Shape := ⟨2, ![1024, 2048]⟩
abbrev S2048 : Shape := ⟨1, ![2048]⟩
abbrev S10752x2048 : Shape := ⟨2, ![10752, 2048]⟩
abbrev S1x2048 : Shape := ⟨2, ![1, 2048]⟩
abbrev S1024x9216 : Shape := ⟨2, ![1024, 9216]⟩
abbrev S1024x1152 : Shape := ⟨2, ![1024, 1152]⟩
abbrev S2048x128 : Shape := ⟨2, ![2048, 128]⟩
abbrev S1x64x1024 : Shape := ⟨3, ![1, 64, 1024]⟩
abbrev S1536x2048 : Shape := ⟨2, ![1536, 2048]⟩
abbrev S1024x1536 : Shape := ⟨2, ![1024, 1536]⟩
abbrev S1024 : Shape := ⟨1, ![1024]⟩
abbrev S1024x1 : Shape := ⟨2, ![1024, 1]⟩
abbrev S1024x128 : Shape := ⟨2, ![1024, 128]⟩
abbrev S128x128 : Shape := ⟨2, ![128, 128]⟩
abbrev S64x128 : Shape := ⟨2, ![64, 128]⟩
abbrev S1x64x128 : Shape := ⟨3, ![1, 64, 128]⟩

abbrev nBuf : Space → Nat
  | .hbm => 9
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S10752x2048, .bf16⟩
  | .hbm, ⟨3, _⟩ => ⟨S1x2048, .f32⟩
  | .hbm, ⟨4, _⟩ => ⟨S1024x9216, .bf16⟩
  | .hbm, ⟨5, _⟩ => ⟨S1024x1152, .f32⟩
  | .hbm, ⟨6, _⟩ => ⟨S2048x128, .f32⟩
  | .hbm, ⟨7, _⟩ => ⟨S2048x128, .f32⟩
  | .hbm, ⟨8, _⟩ => ⟨S1x64x1024, .f32⟩
  | .local _ .vmem, ⟨0, _⟩ => ⟨S1024x2048, .f32⟩
  | .local _ .vmem, ⟨1, _⟩ => ⟨S1x2048, .f32⟩
  | .local _ .vmem, ⟨2, _⟩ => ⟨S1536x2048, .bf16⟩
  | .local _ .vmem, ⟨3, _⟩ => ⟨S1536x2048, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1152, .f32⟩
  | .local _ .vmem, ⟨7, _⟩ => ⟨S2048x128, .f32⟩
  | .local _ .vmem, ⟨8, _⟩ => ⟨S2048x128, .f32⟩
  | .local _ .vmem, ⟨9, _⟩ => ⟨S1x64x1024, .f32⟩
  | .local _ .vmem, ⟨10, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![1, 7], ![false, false]⟩

def k0_cond2 (i : grid0.Coords) : BitVec 1 :=
  let arg1 : BitVec 32 := BitVec.ofNat 32 (i 1).val
  let c6_i32 : BitVec 32 := 6#32
  let v3 : BitVec 1 := Scalar.cmpi .slt arg1 c6_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c6_i32_2 : BitVec 32 := 6#32
  let v6 : BitVec 1 := Scalar.cmpi .eq arg1 c6_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference3Ideal.lean ====
abbrev S1024x2048 : Shape := ⟨2, ![1024, 2048]⟩
abbrev S2048 : Shape := ⟨1, ![2048]⟩
abbrev S10752x2048 : Shape := ⟨2, ![10752, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S2048x10752 : Shape := ⟨2, ![2048, 10752]⟩
abbrev S1024x10752 : Shape := ⟨2, ![1024, 10752]⟩
abbrev S1024x9216 : Shape := ⟨2, ![1024, 9216]⟩
abbrev S1024x1152 : Shape := ⟨2, ![1024, 1152]⟩
abbrev S1024x256 : Shape := ⟨2, ![1024, 256]⟩
abbrev S2048x128 : Shape := ⟨2, ![2048, 128]⟩
abbrev S1024x64 : Shape := ⟨2, ![1024, 64]⟩
abbrev S1x1024x64 : Shape := ⟨3, ![1, 1024, 64]⟩
abbrev S1x64x1024 : Shape := ⟨3, ![1, 64, 1024]⟩

abbrev nBuf : Space → Nat
  | .hbm => 32
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S10752x2048, .bf16⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S10752x2048, .f32⟩
  | .hbm, ⟨20, _⟩ => ⟨S2048x10752, .f32⟩
  | .hbm, ⟨21, _⟩ => ⟨S1024x10752, .f32⟩
  | .hbm, ⟨22, _⟩ => ⟨S1024x9216, .f32⟩
  | .hbm, ⟨23, _⟩ => ⟨S1024x9216, .bf16⟩
  | .hbm, ⟨24, _⟩ => ⟨S1024x1152, .f32⟩
  | .hbm, ⟨25, _⟩ => ⟨S1024x256, .f32⟩
  | .hbm, ⟨26, _⟩ => ⟨S2048x128, .f32⟩
  | .hbm, ⟨27, _⟩ => ⟨S1024x256, .f32⟩
  | .hbm, ⟨28, _⟩ => ⟨S2048x128, .f32⟩
  | .hbm, ⟨29, _⟩ => ⟨S1024x64, .f32⟩
  | .hbm, ⟨30, _⟩ => ⟨S1x1024x64, .f32⟩
  | .hbm, ⟨31, _⟩ => ⟨S1x64x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel4.lean ====
abbrev S1024x9216 : Shape := ⟨2, ![1024, 9216]⟩
abbrev S1024x1024 : Shape := ⟨2, ![1024, 1024]⟩
abbrev S1024x2048 : Shape := ⟨2, ![1024, 2048]⟩
abbrev S2048x2048 : Shape := ⟨2, ![2048, 2048]⟩
abbrev S1024 : Shape := ⟨1, ![1024]⟩
abbrev S2048 : Shape := ⟨1, ![2048]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 24
  | .smem => 0
  | _ => 0

abbrev bufTy : (tb : Table) → Fin (tcTables nBuf tb) → BufTy
  | .hbm, ⟨0, _⟩ => ⟨S1024x9216, .bf16⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1024x1024, .f32⟩
  | .hbm, ⟨6, _⟩ => ⟨S1024x2048, .f32⟩
  | .hbm, ⟨7, _⟩ => ⟨S2048x2048, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2048, .f32⟩
  | .hbm, ⟨12, _⟩ => ⟨S1024x2048, .bf16⟩
  | .hbm, ⟨13, _⟩ => ⟨S1024x1024, .bf16⟩
  | .hbm, ⟨14, _⟩ => ⟨S1024x2048, .bf16⟩
  | .hbm, ⟨15, _⟩ => ⟨S2048x2048, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x2048, .f32⟩
  | .hbm, ⟨20, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1024x2048, .bf16⟩
  | .local _ .vmem, ⟨15, _⟩ => ⟨S1024x1024, .bf16⟩
  | .local _ .vmem, ⟨16, _⟩ => ⟨S1024x2048, .bf16⟩
  | .local _ .vmem, ⟨17, _⟩ => ⟨S2048x2048, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x2048, .f32⟩
  | .local _ .vmem, ⟨22, _⟩ => ⟨S256x2048, .f32⟩
  | .local _ .vmem, ⟨23, _⟩ => ⟨S256x2048, .f32⟩
  | _, _ => ⟨S1024x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S1024x9216 : Shape := ⟨2, ![1024, 9216]⟩
abbrev S1024x1024 : Shape := ⟨2, ![1024, 1024]⟩
abbrev S1024x2048 : Shape := ⟨2, ![1024, 2048]⟩
abbrev S2048x2048 : Shape := ⟨2, ![2048, 2048]⟩
abbrev S1024 : Shape := ⟨1, ![1024]⟩
abbrev S2048 : Shape := ⟨1, ![2048]⟩
abbrev S_ : Shape := ⟨0, ![]⟩
abbrev S1024x1 : Shape := ⟨2, ![1024, 1]⟩
abbrev S1x1024 : Shape := ⟨2, ![1, 1024]⟩
abbrev S1x2048 : Shape := ⟨2, ![1, 2048]⟩

abbrev nBuf : Space → Nat
  | .hbm => 118
  | .vmem => 0
  | .smem => 0
  | _ => 0

abbrev bufTy : (tb : Table) → Fin (tcTables nBuf tb) → BufTy
  | .hbm, ⟨0, _⟩ => ⟨S1024x9216, .bf16⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1024x1024, .f32⟩
  | .hbm, ⟨6, _⟩ => ⟨S1024x2048, .f32⟩
  | .hbm, ⟨7, _⟩ => ⟨S2048x2048, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2048, .f32⟩
  | .hbm, ⟨12, _⟩ => ⟨S1024x9216, .f32⟩
  | .hbm, ⟨13, _⟩ => ⟨S1024x1024, .f32⟩
  | .hbm, ⟨14, _⟩ => ⟨S1024x1024, .f32⟩
  | .hbm, ⟨15, _⟩ => ⟨S1024x2048, .f32⟩
  | .hbm, ⟨16, _⟩ => ⟨S1024x2048, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x2048, .f32⟩
  | .hbm, ⟨28, _⟩ => ⟨S_, .f32⟩
  | .hbm, ⟨29, _⟩ => ⟨S1024, .f32⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024, .f32⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1, .f32⟩
  | .hbm, ⟨47, _⟩ => ⟨S1024x1, .f32⟩
  | .hbm, ⟨48, _⟩ => ⟨S1024x1, .f32⟩
  | .hbm, ⟨49, _⟩ => ⟨S1024x1024, .f32⟩
  | .hbm, ⟨50, _⟩ => ⟨S1024x1024, .f32⟩
  | .hbm, ⟨51, _⟩ => ⟨S1x1024, .f32⟩
  | .hbm, ⟨52, _⟩ => ⟨S1024x1024, .f32⟩
  | .hbm, ⟨53, _⟩ => ⟨S1024x1024, .f32⟩
  | .hbm, ⟨54, _⟩ => ⟨S1x1024, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S_, .f32⟩
  | .hbm, ⟨60, _⟩ => ⟨S1024x1024, .f32⟩
  | .hbm, ⟨61, _⟩ => ⟨S1024x1024, .f32⟩
  | .hbm, ⟨62, _⟩ => ⟨S_, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S1x1024, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S1024x1024, .f32⟩
  | .hbm, ⟨72, _⟩ => ⟨S_, .f32⟩
  | .hbm, ⟨73, _⟩ => ⟨S1024x1024, .f32⟩
  | .hbm, ⟨74, _⟩ => ⟨S1024x1024, .f32⟩
  | .hbm, ⟨75, _⟩ => ⟨S_, .f32⟩
  | .hbm, ⟨76, _⟩ => ⟨S1024x1024, .f32⟩
  | .hbm, ⟨77, _⟩ => ⟨S1024x1024, .f32⟩
  | .hbm, ⟨78, _⟩ => ⟨S1024x1024, .f32⟩
  | .hbm, ⟨79, _⟩ => ⟨S1024x1024, .f32⟩
  | .hbm, ⟨80, _⟩ => ⟨S1024x2048, .f32⟩
  | .hbm, ⟨81, _⟩ => ⟨S1024x2048, .f32⟩
  | .hbm, ⟨82, _⟩ => ⟨S1024x2048, .f32⟩
  | .hbm, ⟨83, _⟩ => ⟨S_, .f32⟩
  | .hbm, ⟨84, _⟩ => ⟨S1024x2048, .f32⟩
  | .hbm, ⟨85, _⟩ => ⟨S1024x2048, .f32⟩
  | .hbm, ⟨86, _⟩ => ⟨S_, .f32⟩
  | .hbm, ⟨87, _⟩ => ⟨S1024x2048, .f32⟩
  | .hbm, ⟨88, _⟩ => ⟨S1024x2048, .f32⟩
  | .hbm, ⟨89, _⟩ => ⟨S1024x2048, .f32⟩
  | .hbm, ⟨90, _⟩ => ⟨S1024x2048, .f32⟩
  | .hbm, ⟨91, _⟩ => ⟨S1024x2048, .f32⟩
  | .hbm, ⟨92, _⟩ => ⟨S_, .f32⟩
  | .hbm, ⟨93, _⟩ => ⟨S1024x2048, .f32⟩
  | .hbm, ⟨94, _⟩ => ⟨S1024x2048, .f32⟩
  | .hbm, ⟨95, _⟩ => ⟨S_, .f32⟩
  | .hbm, ⟨96, _⟩ => ⟨S1024x2048, .f32⟩
  | .hbm, ⟨97, _⟩ => ⟨S1024x2048, .f32⟩
  | .hbm, ⟨98, _⟩ => ⟨S1024x2048, .f32⟩
  | .hbm, ⟨99, _⟩ => ⟨S1024x2048, .f32⟩
  | .hbm, ⟨100, _⟩ => ⟨S1024x2048, .f32⟩
  | .hbm, ⟨101, _⟩ => ⟨S1024x2048, .f32⟩
  | .hbm, ⟨102, _⟩ => ⟨S1024x2048, .f32⟩
  | .hbm, ⟨103, _⟩ => ⟨S_, .f32⟩
  | .hbm, ⟨104, _⟩ => ⟨S1024, .f32⟩
  | .hbm, ⟨105, _⟩ => ⟨S1024x1, .f32⟩
  | .hbm, ⟨106, _⟩ => ⟨S_, .f32⟩
  | .hbm, ⟨107, _⟩ => ⟨S1024x1, .f32⟩
  | .hbm, ⟨108, _⟩ => ⟨S1024x1, .f32⟩
  | .hbm, ⟨109, _⟩ => ⟨S_, .f32⟩
  | .hbm, ⟨110, _⟩ => ⟨S1024x1, .f32⟩
  | .hbm, ⟨111, _⟩ => ⟨S1024x1, .f32⟩
  | .hbm, ⟨112, _⟩ => ⟨S1024x1, .f32⟩
  | .hbm, ⟨113, _⟩ => ⟨S1024x2048, .f32⟩
  | .hbm, ⟨114, _⟩ => ⟨S1024x2048, .f32⟩
  | .hbm, ⟨115, _⟩ => ⟨S1x2048, .f32⟩
  | .hbm, ⟨116, _⟩ => ⟨S1024x2048, .f32⟩
  | .hbm, ⟨117, _⟩ => ⟨S1024x2048, .f32⟩
  | _, _ => ⟨S1024x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_call2_v5 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_4 : Ref sig .tc := ⟨.hbm, 83, rfl⟩
abbrev main_v42 : Ref sig .tc := ⟨.hbm, 84, rfl⟩
abbrev main_v43 : Ref sig .tc := ⟨.hbm, 85, rfl⟩
abbrev main_cst_5 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_6 : Ref sig .tc := ⟨.hbm, 92, rfl⟩
abbrev main_v49 : Ref sig .tc := ⟨.hbm, 93, rfl⟩
abbrev main_v50 : Ref sig .tc := ⟨.hbm, 94, rfl⟩
abbrev main_cst_7 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_8 : Ref sig .tc := ⟨.hbm, 103, rfl⟩
abbrev main_v58 : Ref sig .tc := ⟨.hbm, 104, rfl⟩
abbrev main_v59 : Ref sig .tc := ⟨.hbm, 105, rfl⟩
abbrev main_cst_9 : Ref sig .tc := ⟨.hbm, 106, rfl⟩
abbrev main_v60 : Ref sig .tc := ⟨.hbm, 107, rfl⟩
abbrev main_v61 : Ref sig .tc := ⟨.hbm, 108, rfl⟩
abbrev main_cst_10 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩

abbrev nD : Nat := 1
abbrev τ : Topo := Topo.v7x

variable {F : FTy → Type} [FloatOps F]
-- ==== Kernel5.lean ====
abbrev S16384x9216 : Shape := ⟨2, ![16384, 9216]⟩
abbrev S31x1024 : Shape := ⟨2, ![31, 1024]⟩
abbrev S1024 : Shape := ⟨1, ![1024]⟩
abbrev S_ : Shape := ⟨0, ![]⟩
abbrev S1x1024 : Shape := ⟨2, ![1, 1024]⟩
abbrev S32x1024 : Shape := ⟨2, ![32, 1024]⟩
abbrev S8x2048x9216 : Shape := ⟨3, ![8, 2048, 9216]⟩
abbrev S8x2048x1024 : Shape := ⟨3, ![8, 2048, 1024]⟩
abbrev S8x32x1024 : Shape := ⟨3, ![8, 32, 1024]⟩
abbrev S1x2048x128 : Shape := ⟨3, ![1, 2048, 128]⟩
abbrev S32x128 : Shape := ⟨2, ![32, 128]⟩
abbrev S1x128 : Shape := ⟨2, ![1, 128]⟩
abbrev S1x32x128 : Shape := ⟨3, ![1, 32, 128]⟩
abbrev S2080x128 : Shape := ⟨2, ![2080, 128]⟩
abbrev S2048x128 : Shape := ⟨2, ![2048, 128]⟩
abbrev S64x128 : Shape := ⟨2, ![64, 128]⟩
abbrev S96x128 : Shape := ⟨2, ![96, 128]⟩
abbrev S88x128 : Shape := ⟨2, ![88, 128]⟩
abbrev S1x64x128 : Shape := ⟨3, ![1, 64, 128]⟩

abbrev nBuf : Space → Nat
  | .hbm => 10
  | .vmem => 13
  | .smem => 0
  | _ => 0

abbrev bufTy : (tb : Table) → Fin (tcTables nBuf tb) → BufTy
  | .hbm, ⟨0, _⟩ => ⟨S16384x9216, .bf16⟩
  | .hbm, ⟨1, _⟩ => ⟨S31x1024, .f32⟩
  | .hbm, ⟨2, _⟩ => ⟨S1024, .f32⟩
  | .hbm, ⟨3, _⟩ => ⟨S_, .f32⟩
  | .hbm, ⟨4, _⟩ => ⟨S1x1024, .f32⟩
  | .hbm, ⟨5, _⟩ => ⟨S32x1024, .f32⟩
  | .hbm, ⟨6, _⟩ => ⟨S1x1024, .f32⟩
  | .hbm, ⟨7, _⟩ => ⟨S8x2048x9216, .bf16⟩
  | .hbm, ⟨8, _⟩ => ⟨S8x2048x1024, .f32⟩
  | .hbm, ⟨9, _⟩ => ⟨S8x32x1024, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S32x128, .f32⟩
  | .local _ .vmem, ⟨5, _⟩ => ⟨S32x128, .f32⟩
  | .local _ .vmem, ⟨6, _⟩ => ⟨S1x128, .f32⟩
  | .local _ .vmem, ⟨7, _⟩ => ⟨S1x128, .f32⟩
  | .local _ .vmem, ⟨8, _⟩ => ⟨S1x2048x128, .f32⟩
  | .local _ .vmem, ⟨9, _⟩ => ⟨S1x2048x128, .f32⟩
  | .local _ .vmem, ⟨10, _⟩ => ⟨S1x32x128, .f32⟩
  | .local _ .vmem, ⟨11, _⟩ => ⟨S1x32x128, .f32⟩
  | .local _ .vmem, ⟨12, _⟩ => ⟨S2080x128, .f32⟩
  | _, _ => ⟨S16384x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x9216 : Shape := ⟨2, ![16384, 9216]⟩
abbrev S31x1024 : Shape := ⟨2, ![31, 1024]⟩
abbrev S1024 : Shape := ⟨1, ![1024]⟩
abbrev S16384x1024 : Shape := ⟨2, ![16384, 1024]⟩
abbrev S_ : Shape := ⟨0, ![]⟩
abbrev S8x2048x1024 : Shape := ⟨3, ![8, 2048, 1024]⟩
abbrev S8x30x1024 : Shape := ⟨3, ![8, 30, 1024]⟩
abbrev S8x2078x1024 : Shape := ⟨3, ![8, 2078, 1024]⟩
abbrev S1x1024 : Shape := ⟨2, ![1, 1024]⟩
abbrev S1x1x1024 : Shape := ⟨3, ![1, 1, 1024]⟩
abbrev S8x32x1024 : Shape := ⟨3, ![8, 32, 1024]⟩

abbrev nBuf : Space → Nat
  | .hbm => 243
  | .vmem => 0
  | .smem => 0
  | _ => 0

abbrev hbmTy0_0 (i : Nat) : BufTy := match i % 128 with
  | 0 => ⟨S16384x9216, .bf16⟩
  | 1 => ⟨S31x1024, .f32⟩
  | 2 => ⟨S1024, .f32⟩
  | 3 => ⟨S16384x1024, .bf16⟩
  | 4 => ⟨S16384x1024, .f32⟩
  | 5 => ⟨S16384x1024, .bf16⟩
  | 6 => ⟨S16384x1024, .f32⟩
  | 7 => ⟨S16384x1024, .f32⟩
  | 8 => ⟨S16384x1024, .f32⟩
  | 9 => ⟨S_, .f32⟩
  | 10 => ⟨S16384x1024, .f32⟩
  | 11 => ⟨S16384x1024, .f32⟩
  | 12 => ⟨S_, .f32⟩
  | 13 => ⟨S16384x1024, .f32⟩
  | 14 => ⟨S16384x1024, .f32⟩
  | 15 => ⟨S16384x1024, .f32⟩
  | 16 => ⟨S8x2048x1024, .f32⟩
  | 17 => ⟨S_, .f32⟩
  | 18 => ⟨S8x30x1024, .f32⟩
  | 19 => ⟨S8x2078x1024, .f32⟩
  | 20 => ⟨S8x2048x1024, .f32⟩
  | 21 => ⟨S1x1024, .f32⟩
  | 22 => ⟨S1024, .f32⟩
  | 23 => ⟨S1x1x1024, .f32⟩
  | 24 => ⟨S8x2048x1024, .f32⟩
  | 25 => ⟨S8x2048x1024, .f32⟩
  | 26 => ⟨S_, .f32⟩
  | 27 => ⟨S8x2048x1024, .f32⟩
  | 28 => ⟨S8x2048x1024, .f32⟩
  | 29 => ⟨S8x2048x1024, .f32⟩
  | 30 => ⟨S1x1024, .f32⟩
  | 31 => ⟨S1024, .f32⟩
  | 32 => ⟨S1x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S1x1024, .f32⟩
  | 38 => ⟨S1024, .f32⟩
  | 39 => ⟨S1x1x1024, .f32⟩
  | 40 => ⟨S8x2048x1024, .f32⟩
  | 41 => ⟨S8x2048x1024, .f32⟩
  | 42 => ⟨S8x2048x1024, .f32⟩
  | 43 => ⟨S8x2048x1024, .f32⟩
  | 44 => ⟨S1x1024, .f32⟩
  | 45 => ⟨S1024, .f32⟩
  | 46 => ⟨S1x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S1x1024, .f32⟩
  | 52 => ⟨S1024, .f32⟩
  | 53 => ⟨S1x1x1024, .f32⟩
  | 54 => ⟨S8x2048x1024, .f32⟩
  | 55 => ⟨S8x2048x1024, .f32⟩
  | 56 => ⟨S8x2048x1024, .f32⟩
  | 57 => ⟨S8x2048x1024, .f32⟩
  | 58 => ⟨S1x1024, .f32⟩
  | 59 => ⟨S1024, .f32⟩
  | 60 => ⟨S1x1x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S1x1024, .f32⟩
  | 66 => ⟨S1024, .f32⟩
  | 67 => ⟨S1x1x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S1x1024, .f32⟩
  | 73 => ⟨S1024, .f32⟩
  | 74 => ⟨S1x1x1024, .f32⟩
  | 75 => ⟨S8x2048x1024, .f32⟩
  | 76 => ⟨S8x2048x1024, .f32⟩
  | 77 => ⟨S8x2048x1024, .f32⟩
  | 78 => ⟨S8x2048x1024, .f32⟩
  | 79 => ⟨S1x1024, .f32⟩
  | 80 => ⟨S1024, .f32⟩
  | 81 => ⟨S1x1x1024, .f32⟩
  | 82 => ⟨S8x2048x1024, .f32⟩
  | 83 => ⟨S8x2048x1024, .f32⟩
  | 84 => ⟨S8x2048x1024, .f32⟩
  | 85 => ⟨S8x2048x1024, .f32⟩
  | 86 => ⟨S1x1024, .f32⟩
  | 87 => ⟨S1024, .f32⟩
  | 88 => ⟨S1x1x1024, .f32⟩
  | 89 => ⟨S8x2048x1024, .f32⟩
  | 90 => ⟨S8x2048x1024, .f32⟩
  | 91 => ⟨S8x2048x1024, .f32⟩
  | 92 => ⟨S8x2048x1024, .f32⟩
  | 93 => ⟨S1x1024, .f32⟩
  | 94 => ⟨S1024, .f32⟩
  | 95 => ⟨S1x1x1024, .f32⟩
  | 96 => ⟨S8x2048x1024, .f32⟩
  | 97 => ⟨S8x2048x1024, .f32⟩
  | 98 => ⟨S8x2048x1024, .f32⟩
  | 99 => ⟨S8x2048x1024, .f32⟩
  | 100 => ⟨S1x1024, .f32⟩
  | 101 => ⟨S1024, .f32⟩
  | 102 => ⟨S1x1x1024, .f32⟩
  | 103 => ⟨S8x2048x1024, .f32⟩
  | 104 => ⟨S8x2048x1024, .f32⟩
  | 105 => ⟨S8x2048x1024, .f32⟩
  | 106 => ⟨S8x2048x1024, .f32⟩
  | 107 => ⟨S1x1024, .f32⟩
  | 108 => ⟨S1024, .f32⟩
  | 109 => ⟨S1x1x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S1x1024, .f32⟩
  | 115 => ⟨S1024, .f32⟩
  | 116 => ⟨S1x1x1024, .f32⟩
  | 117 => ⟨S8x2048x1024, .f32⟩
  | 118 => ⟨S8x2048x1024, .f32⟩
  | 119 => ⟨S8x2048x1024, .f32⟩
  | 120 => ⟨S8x2048x1024, .f32⟩
  | 121 => ⟨S1x1024, .f32⟩
  | 122 => ⟨S1024, .f32⟩
  | 123 => ⟨S1x1x1024, .f32⟩
  | 124 => ⟨S8x2048x1024, .f32⟩
  | 125 => ⟨S8x2048x1024, .f32⟩
  | 126 => ⟨S8x2048x1024, .f32⟩
  | 127 => ⟨S8x2048x1024, .f32⟩
  | _ => ⟨S16384x9216, .bf16⟩

abbrev hbmTy0_1 (i : Nat) : BufTy := match i % 128 with
  | 0 => ⟨S1x1024, .f32⟩
  | 1 => ⟨S1024, .f32⟩
  | 2 => ⟨S1x1x1024, .f32⟩
  | 3 => ⟨S8x2048x1024, .f32⟩
  | 4 => ⟨S8x2048x1024, .f32⟩
  | 5 => ⟨S8x2048x1024, .f32⟩
  | 6 => ⟨S8x2048x1024, .f32⟩
  | 7 => ⟨S1x1024, .f32⟩
  | 8 => ⟨S1024, .f32⟩
  | 9 => ⟨S1x1x1024, .f32⟩
  | 10 => ⟨S8x2048x1024, .f32⟩
  | 11 => ⟨S8x2048x1024, .f32⟩
  | 12 => ⟨S8x2048x1024, .f32⟩
  | 13 => ⟨S8x2048x1024, .f32⟩
  | 14 => ⟨S1x1024, .f32⟩
  | 15 => ⟨S1024, .f32⟩
  | 16 => ⟨S1x1x1024, .f32⟩
  | 17 => ⟨S8x2048x1024, .f32⟩
  | 18 => ⟨S8x2048x1024, .f32⟩
  | 19 => ⟨S8x2048x1024, .f32⟩
  | 20 => ⟨S8x2048x1024, .f32⟩
  | 21 => ⟨S1x1024, .f32⟩
  | 22 => ⟨S1024, .f32⟩
  | 23 => ⟨S1x1x1024, .f32⟩
  | 24 => ⟨S8x2048x1024, .f32⟩
  | 25 => ⟨S8x2048x1024, .f32⟩
  | 26 => ⟨S8x2048x1024, .f32⟩
  | 27 => ⟨S8x2048x1024, .f32⟩
  | 28 => ⟨S1x1024, .f32⟩
  | 29 => ⟨S1024, .f32⟩
  | 30 => ⟨S1x1x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S1x1024, .f32⟩
  | 36 => ⟨S1024, .f32⟩
  | 37 => ⟨S1x1x1024, .f32⟩
  | 38 => ⟨S8x2048x1024, .f32⟩
  | 39 => ⟨S8x2048x1024, .f32⟩
  | 40 => ⟨S8x2048x1024, .f32⟩
  | 41 => ⟨S8x2048x1024, .f32⟩
  | 42 => ⟨S1x1024, .f32⟩
  | 43 => ⟨S1024, .f32⟩
  | 44 => ⟨S1x1x1024, .f32⟩
  | 45 => ⟨S8x2048x1024, .f32⟩
  | 46 => ⟨S8x2048x1024, .f32⟩
  | 47 => ⟨S8x2048x1024, .f32⟩
  | 48 => ⟨S8x2048x1024, .f32⟩
  | 49 => ⟨S1x1024, .f32⟩
  | 50 => ⟨S1024, .f32⟩
  | 51 => ⟨S1x1x1024, .f32⟩
  | 52 => ⟨S8x2048x1024, .f32⟩
  | 53 => ⟨S8x2048x1024, .f32⟩
  | 54 => ⟨S8x2048x1024, .f32⟩
  | 55 => ⟨S8x2048x1024, .f32⟩
  | 56 => ⟨S1x1024, .f32⟩
  | 57 => ⟨S1024, .f32⟩
  | 58 => ⟨S1x1x1024, .f32⟩
  | 59 => ⟨S8x2048x1024, .f32⟩
  | 60 => ⟨S8x2048x1024, .f32⟩
  | 61 => ⟨S8x2048x1024, .f32⟩
  | 62 => ⟨S8x2048x1024, .f32⟩
  | 63 => ⟨S1x1024, .f32⟩
  | 64 => ⟨S1024, .f32⟩
  | 65 => ⟨S1x1x1024, .f32⟩
  | 66 => ⟨S8x2048x1024, .f32⟩
  | 67 => ⟨S8x2048x1024, .f32⟩
  | 68 => ⟨S8x2048x1024, .f32⟩
  | 69 => ⟨S8x2048x1024, .f32⟩
  | 70 => ⟨S1x1024, .f32⟩
  | 71 => ⟨S1024, .f32⟩
  | 72 => ⟨S1x1x1024, .f32⟩
  | 73 => ⟨S8x2048x1024, .f32⟩
  | 74 => ⟨S8x2048x1024, .f32⟩
  | 75 => ⟨S8x2048x1024, .f32⟩
  | 76 => ⟨S8x2048x1024, .f32⟩
  | 77 => ⟨S1x1024, .f32⟩
  | 78 => ⟨S1024, .f32⟩
  | 79 => ⟨S1x1x1024, .f32⟩
  | 80 => ⟨S8x2048x1024, .f32⟩
  | 81 => ⟨S8x2048x1024, .f32⟩
  | 82 => ⟨S8x2048x1024, .f32⟩
  | 83 => ⟨S8x2048x1024, .f32⟩
  | 84 => ⟨S1x1024, .f32⟩
  | 85 => ⟨S1024, .f32⟩
  | 86 => ⟨S1x1x1024, .f32⟩
  | 87 => ⟨S8x2048x1024, .f32⟩
  | 88 => ⟨S8x2048x1024, .f32⟩
  | 89 => ⟨S8x2048x1024, .f32⟩
  | 90 => ⟨S8x2048x1024, .f32⟩
  | 91 => ⟨S1x1024, .f32⟩
  | 92 => ⟨S1024, .f32⟩
  | 93 => ⟨S1x1x1024, .f32⟩
  | 94 => ⟨S8x2048x1024, .f32⟩
  | 95 => ⟨S8x2048x1024, .f32⟩
  | 96 => ⟨S8x2048x1024, .f32⟩
  | 97 => ⟨S8x2048x1024, .f32⟩
  | 98 => ⟨S1x1024, .f32⟩
  | 99 => ⟨S1024, .f32⟩
  | 100 => ⟨S1x1x1024, .f32⟩
  | 101 => ⟨S8x2048x1024, .f32⟩
  | 102 => ⟨S8x2048x1024, .f32⟩
  | 103 => ⟨S8x2048x1024, .f32⟩
  | 104 => ⟨S8x2048x1024, .f32⟩
  | 105 => ⟨S1x1024, .f32⟩
  | 106 => ⟨S1024, .f32⟩
  | 107 => ⟨S1x1x1024, .f32⟩
  | 108 => ⟨S8x2048x1024, .f32⟩
  | 109 => ⟨S8x2048x1024, .f32⟩
  | 110 => ⟨S8x2048x1024, .f32⟩
  | 111 => ⟨S1x1x1024, .f32⟩
  | 112 => ⟨S8x2048x1024, .f32⟩
  | 113 => ⟨S8x2048x1024, .f32⟩
  | 114 => ⟨S8x32x1024, .f32⟩
  | _ => ⟨S16384x9216, .bf16⟩

abbrev hbmTy (i : Nat) : BufTy := match i / 128 with
  | 0 => hbmTy0_0 i
  | 1 => hbmTy0_1 i
  | _ => ⟨S16384x9216, .bf16⟩

abbrev bufTy : (tb : Table) → Fin (tcTables nBuf tb) → BufTy
  | .hbm, ⟨i, _⟩ => hbmTy i
  | _, _ => ⟨S16384x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩
abbrev main_v233 : Ref sig .tc := ⟨.hbm, 240, rfl⟩
abbrev main_v234 : Ref sig .tc := ⟨.hbm, 241, rfl⟩
abbrev main_v235 : Ref sig .tc := ⟨.hbm, 242, rfl⟩

abbrev nD : Nat := 1
abbrev τ : Topo := Topo.v7x

variable {F : FTy → Type} [FloatOps F]
-- ==== Kernel6.lean ====
abbrev S1024x9216 : Shape := ⟨2, ![1024, 9216]⟩
abbrev S128x30x1024 : Shape := ⟨3, ![128, 30, 1024]⟩
abbrev S31x1024 : Shape := ⟨2, ![31, 1024]⟩
abbrev S1024 : Shape := ⟨1, ![1024]⟩
abbrev S_ : Shape := ⟨0, ![]⟩
abbrev S1x1024 : Shape := ⟨2, ![1, 1024]⟩
abbrev S32x1024 : Shape := ⟨2, ![32, 1024]⟩
abbrev S30x128x1024 : Shape := ⟨3, ![30, 128, 1024]⟩
abbrev S1024x1024 : Shape := ⟨2, ![1024, 1024]⟩
abbrev S1024x128 : Shape := ⟨2, ![1024, 128]⟩
abbrev S30x128x128 : Shape := ⟨3, ![30, 128, 128]⟩
abbrev S32x128 : Shape := ⟨2, ![32, 128]⟩
abbrev S1x128 : Shape := ⟨2, ![1, 128]⟩
abbrev S128x128 : Shape := ⟨2, ![128, 128]⟩
abbrev S1x128x128 : Shape := ⟨3, ![1, 128, 128]⟩

abbrev nBuf : Space → Nat
  | .hbm => 11
  | .vmem => 15
  | .smem => 0
  | _ => 0

abbrev bufTy : (tb : Table) → Fin (tcTables nBuf tb) → BufTy
  | .hbm, ⟨0, _⟩ => ⟨S1024x9216, .bf16⟩
  | .hbm, ⟨1, _⟩ => ⟨S128x30x1024, .f32⟩
  | .hbm, ⟨2, _⟩ => ⟨S31x1024, .f32⟩
  | .hbm, ⟨3, _⟩ => ⟨S1024, .f32⟩
  | .hbm, ⟨4, _⟩ => ⟨S_, .f32⟩
  | .hbm, ⟨5, _⟩ => ⟨S1x1024, .f32⟩
  | .hbm, ⟨6, _⟩ => ⟨S32x1024, .f32⟩
  | .hbm, ⟨7, _⟩ => ⟨S30x128x1024, .f32⟩
  | .hbm, ⟨8, _⟩ => ⟨S1x1024, .f32⟩
  | .hbm, ⟨9, _⟩ => ⟨S1024x1024, .f32⟩
  | .hbm, ⟨10, _⟩ => ⟨S30x128x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S30x128x128, .f32⟩
  | .local _ .vmem, ⟨5, _⟩ => ⟨S30x128x128, .f32⟩
  | .local _ .vmem, ⟨6, _⟩ => ⟨S32x128, .f32⟩
  | .local _ .vmem, ⟨7, _⟩ => ⟨S32x128, .f32⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S30x128x128, .f32⟩
  | .local _ .vmem, ⟨13, _⟩ => ⟨S30x128x128, .f32⟩
  | .local _ .vmem, ⟨14, _⟩ => ⟨S1024x128, .f32⟩
  | _, _ => ⟨S1024x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S30x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S30x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S1024x9216 : Shape := ⟨2, ![1024, 9216]⟩
abbrev S128x30x1024 : Shape := ⟨3, ![128, 30, 1024]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S128x8x1024 : Shape := ⟨3, ![128, 8, 1024]⟩
abbrev S128x38x1024 : Shape := ⟨3, ![128, 38, 1024]⟩
abbrev S1x1024 : Shape := ⟨2, ![1, 1024]⟩
abbrev S1x1x1024 : Shape := ⟨3, ![1, 1, 1024]⟩
abbrev S30x128x1024 : Shape := ⟨3, ![30, 128, 1024]⟩

abbrev nBuf : Space → Nat
  | .hbm => 244
  | .vmem => 0
  | .smem => 0
  | _ => 0

abbrev hbmTy0_0 (i : Nat) : BufTy := match i % 128 with
  | 0 => ⟨S1024x9216, .bf16⟩
  | 1 => ⟨S128x30x1024, .f32⟩
  | 2 => ⟨S31x1024, .f32⟩
  | 3 => ⟨S1024, .f32⟩
  | 4 => ⟨S1024x1024, .bf16⟩
  | 5 => ⟨S1024x1024, .f32⟩
  | 6 => ⟨S1024x1024, .bf16⟩
  | 7 => ⟨S1024x1024, .f32⟩
  | 8 => ⟨S1024x1024, .f32⟩
  | 9 => ⟨S1024x1024, .f32⟩
  | 10 => ⟨S_, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S1024x1024, .f32⟩
  | 17 => ⟨S128x8x1024, .f32⟩
  | 18 => ⟨S128x38x1024, .f32⟩
  | 19 => ⟨S128x8x1024, .f32⟩
  | 20 => ⟨S1x1024, .f32⟩
  | 21 => ⟨S1024, .f32⟩
  | 22 => ⟨S1x1x1024, .f32⟩
  | 23 => ⟨S128x8x1024, .f32⟩
  | 24 => ⟨S128x8x1024, .f32⟩
  | 25 => ⟨S_, .f32⟩
  | 26 => ⟨S128x8x1024, .f32⟩
  | 27 => ⟨S128x8x1024, .f32⟩
  | 28 => ⟨S128x8x1024, .f32⟩
  | 29 => ⟨S1x1024, .f32⟩
  | 30 => ⟨S1024, .f32⟩
  | 31 => ⟨S1x1x1024, .f32⟩
  | 32 => ⟨S128x8x1024, .f32⟩
  | 33 => ⟨S128x8x1024, .f32⟩
  | 34 => ⟨S128x8x1024, .f32⟩
  | 35 => ⟨S128x8x1024, .f32⟩
  | 36 => ⟨S1x1024, .f32⟩
  | 37 => ⟨S1024, .f32⟩
  | 38 => ⟨S1x1x1024, .f32⟩
  | 39 => ⟨S128x8x1024, .f32⟩
  | 40 => ⟨S128x8x1024, .f32⟩
  | 41 => ⟨S128x8x1024, .f32⟩
  | 42 => ⟨S128x8x1024, .f32⟩
  | 43 => ⟨S1x1024, .f32⟩
  | 44 => ⟨S1024, .f32⟩
  | 45 => ⟨S1x1x1024, .f32⟩
  | 46 => ⟨S128x8x1024, .f32⟩
  | 47 => ⟨S128x8x1024, .f32⟩
  | 48 => ⟨S128x8x1024, .f32⟩
  | 49 => ⟨S128x8x1024, .f32⟩
  | 50 => ⟨S1x1024, .f32⟩
  | 51 => ⟨S1024, .f32⟩
  | 52 => ⟨S1x1x1024, .f32⟩
  | 53 => ⟨S128x8x1024, .f32⟩
  | 54 => ⟨S128x8x1024, .f32⟩
  | 55 => ⟨S128x8x1024, .f32⟩
  | 56 => ⟨S128x8x1024, .f32⟩
  | 57 => ⟨S1x1024, .f32⟩
  | 58 => ⟨S1024, .f32⟩
  | 59 => ⟨S1x1x1024, .f32⟩
  | 60 => ⟨S128x8x1024, .f32⟩
  | 61 => ⟨S128x8x1024, .f32⟩
  | 62 => ⟨S128x8x1024, .f32⟩
  | 63 => ⟨S128x8x1024, .f32⟩
  | 64 => ⟨S1x1024, .f32⟩
  | 65 => ⟨S1024, .f32⟩
  | 66 => ⟨S1x1x1024, .f32⟩
  | 67 => ⟨S128x8x1024, .f32⟩
  | 68 => ⟨S128x8x1024, .f32⟩
  | 69 => ⟨S128x8x1024, .f32⟩
  | 70 => ⟨S128x8x1024, .f32⟩
  | 71 => ⟨S1x1024, .f32⟩
  | 72 => ⟨S1024, .f32⟩
  | 73 => ⟨S1x1x1024, .f32⟩
  | 74 => ⟨S128x8x1024, .f32⟩
  | 75 => ⟨S128x8x1024, .f32⟩
  | 76 => ⟨S128x8x1024, .f32⟩
  | 77 => ⟨S128x8x1024, .f32⟩
  | 78 => ⟨S1x1024, .f32⟩
  | 79 => ⟨S1024, .f32⟩
  | 80 => ⟨S1x1x1024, .f32⟩
  | 81 => ⟨S128x8x1024, .f32⟩
  | 82 => ⟨S128x8x1024, .f32⟩
  | 83 => ⟨S128x8x1024, .f32⟩
  | 84 => ⟨S128x8x1024, .f32⟩
  | 85 => ⟨S1x1024, .f32⟩
  | 86 => ⟨S1024, .f32⟩
  | 87 => ⟨S1x1x1024, .f32⟩
  | 88 => ⟨S128x8x1024, .f32⟩
  | 89 => ⟨S128x8x1024, .f32⟩
  | 90 => ⟨S128x8x1024, .f32⟩
  | 91 => ⟨S128x8x1024, .f32⟩
  | 92 => ⟨S1x1024, .f32⟩
  | 93 => ⟨S1024, .f32⟩
  | 94 => ⟨S1x1x1024, .f32⟩
  | 95 => ⟨S128x8x1024, .f32⟩
  | 96 => ⟨S128x8x1024, .f32⟩
  | 97 => ⟨S128x8x1024, .f32⟩
  | 98 => ⟨S128x8x1024, .f32⟩
  | 99 => ⟨S1x1024, .f32⟩
  | 100 => ⟨S1024, .f32⟩
  | 101 => ⟨S1x1x1024, .f32⟩
  | 102 => ⟨S128x8x1024, .f32⟩
  | 103 => ⟨S128x8x1024, .f32⟩
  | 104 => ⟨S128x8x1024, .f32⟩
  | 105 => ⟨S128x8x1024, .f32⟩
  | 106 => ⟨S1x1024, .f32⟩
  | 107 => ⟨S1024, .f32⟩
  | 108 => ⟨S1x1x1024, .f32⟩
  | 109 => ⟨S128x8x1024, .f32⟩
  | 110 => ⟨S128x8x1024, .f32⟩
  | 111 => ⟨S128x8x1024, .f32⟩
  | 112 => ⟨S128x8x1024, .f32⟩
  | 113 => ⟨S1x1024, .f32⟩
  | 114 => ⟨S1024, .f32⟩
  | 115 => ⟨S1x1x1024, .f32⟩
  | 116 => ⟨S128x8x1024, .f32⟩
  | 117 => ⟨S128x8x1024, .f32⟩
  | 118 => ⟨S128x8x1024, .f32⟩
  | 119 => ⟨S128x8x1024, .f32⟩
  | 120 => ⟨S1x1024, .f32⟩
  | 121 => ⟨S1024, .f32⟩
  | 122 => ⟨S1x1x1024, .f32⟩
  | 123 => ⟨S128x8x1024, .f32⟩
  | 124 => ⟨S128x8x1024, .f32⟩
  | 125 => ⟨S128x8x1024, .f32⟩
  | 126 => ⟨S128x8x1024, .f32⟩
  | 127 => ⟨S1x1024, .f32⟩
  | _ => ⟨S1024x9216, .bf16⟩

abbrev hbmTy0_1 (i : Nat) : BufTy := match i % 128 with
  | 0 => ⟨S1024, .f32⟩
  | 1 => ⟨S1x1x1024, .f32⟩
  | 2 => ⟨S128x8x1024, .f32⟩
  | 3 => ⟨S128x8x1024, .f32⟩
  | 4 => ⟨S128x8x1024, .f32⟩
  | 5 => ⟨S128x8x1024, .f32⟩
  | 6 => ⟨S1x1024, .f32⟩
  | 7 => ⟨S1024, .f32⟩
  | 8 => ⟨S1x1x1024, .f32⟩
  | 9 => ⟨S128x8x1024, .f32⟩
  | 10 => ⟨S128x8x1024, .f32⟩
  | 11 => ⟨S128x8x1024, .f32⟩
  | 12 => ⟨S128x8x1024, .f32⟩
  | 13 => ⟨S1x1024, .f32⟩
  | 14 => ⟨S1024, .f32⟩
  | 15 => ⟨S1x1x1024, .f32⟩
  | 16 => ⟨S128x8x1024, .f32⟩
  | 17 => ⟨S128x8x1024, .f32⟩
  | 18 => ⟨S128x8x1024, .f32⟩
  | 19 => ⟨S128x8x1024, .f32⟩
  | 20 => ⟨S1x1024, .f32⟩
  | 21 => ⟨S1024, .f32⟩
  | 22 => ⟨S1x1x1024, .f32⟩
  | 23 => ⟨S128x8x1024, .f32⟩
  | 24 => ⟨S128x8x1024, .f32⟩
  | 25 => ⟨S128x8x1024, .f32⟩
  | 26 => ⟨S128x8x1024, .f32⟩
  | 27 => ⟨S1x1024, .f32⟩
  | 28 => ⟨S1024, .f32⟩
  | 29 => ⟨S1x1x1024, .f32⟩
  | 30 => ⟨S128x8x1024, .f32⟩
  | 31 => ⟨S128x8x1024, .f32⟩
  | 32 => ⟨S128x8x1024, .f32⟩
  | 33 => ⟨S128x8x1024, .f32⟩
  | 34 => ⟨S1x1024, .f32⟩
  | 35 => ⟨S1024, .f32⟩
  | 36 => ⟨S1x1x1024, .f32⟩
  | 37 => ⟨S128x8x1024, .f32⟩
  | 38 => ⟨S128x8x1024, .f32⟩
  | 39 => ⟨S128x8x1024, .f32⟩
  | 40 => ⟨S128x8x1024, .f32⟩
  | 41 => ⟨S1x1024, .f32⟩
  | 42 => ⟨S1024, .f32⟩
  | 43 => ⟨S1x1x1024, .f32⟩
  | 44 => ⟨S128x8x1024, .f32⟩
  | 45 => ⟨S128x8x1024, .f32⟩
  | 46 => ⟨S128x8x1024, .f32⟩
  | 47 => ⟨S128x8x1024, .f32⟩
  | 48 => ⟨S1x1024, .f32⟩
  | 49 => ⟨S1024, .f32⟩
  | 50 => ⟨S1x1x1024, .f32⟩
  | 51 => ⟨S128x8x1024, .f32⟩
  | 52 => ⟨S128x8x1024, .f32⟩
  | 53 => ⟨S128x8x1024, .f32⟩
  | 54 => ⟨S128x8x1024, .f32⟩
  | 55 => ⟨S1x1024, .f32⟩
  | 56 => ⟨S1024, .f32⟩
  | 57 => ⟨S1x1x1024, .f32⟩
  | 58 => ⟨S128x8x1024, .f32⟩
  | 59 => ⟨S128x8x1024, .f32⟩
  | 60 => ⟨S128x8x1024, .f32⟩
  | 61 => ⟨S128x8x1024, .f32⟩
  | 62 => ⟨S1x1024, .f32⟩
  | 63 => ⟨S1024, .f32⟩
  | 64 => ⟨S1x1x1024, .f32⟩
  | 65 => ⟨S128x8x1024, .f32⟩
  | 66 => ⟨S128x8x1024, .f32⟩
  | 67 => ⟨S128x8x1024, .f32⟩
  | 68 => ⟨S128x8x1024, .f32⟩
  | 69 => ⟨S1x1024, .f32⟩
  | 70 => ⟨S1024, .f32⟩
  | 71 => ⟨S1x1x1024, .f32⟩
  | 72 => ⟨S128x8x1024, .f32⟩
  | 73 => ⟨S128x8x1024, .f32⟩
  | 74 => ⟨S128x8x1024, .f32⟩
  | 75 => ⟨S128x8x1024, .f32⟩
  | 76 => ⟨S1x1024, .f32⟩
  | 77 => ⟨S1024, .f32⟩
  | 78 => ⟨S1x1x1024, .f32⟩
  | 79 => ⟨S128x8x1024, .f32⟩
  | 80 => ⟨S128x8x1024, .f32⟩
  | 81 => ⟨S128x8x1024, .f32⟩
  | 82 => ⟨S128x8x1024, .f32⟩
  | 83 => ⟨S1x1024, .f32⟩
  | 84 => ⟨S1024, .f32⟩
  | 85 => ⟨S1x1x1024, .f32⟩
  | 86 => ⟨S128x8x1024, .f32⟩
  | 87 => ⟨S128x8x1024, .f32⟩
  | 88 => ⟨S128x8x1024, .f32⟩
  | 89 => ⟨S128x8x1024, .f32⟩
  | 90 => ⟨S1x1024, .f32⟩
  | 91 => ⟨S1024, .f32⟩
  | 92 => ⟨S1x1x1024, .f32⟩
  | 93 => ⟨S128x8x1024, .f32⟩
  | 94 => ⟨S128x8x1024, .f32⟩
  | 95 => ⟨S128x8x1024, .f32⟩
  | 96 => ⟨S128x8x1024, .f32⟩
  | 97 => ⟨S1x1024, .f32⟩
  | 98 => ⟨S1024, .f32⟩
  | 99 => ⟨S1x1x1024, .f32⟩
  | 100 => ⟨S128x8x1024, .f32⟩
  | 101 => ⟨S128x8x1024, .f32⟩
  | 102 => ⟨S128x8x1024, .f32⟩
  | 103 => ⟨S128x8x1024, .f32⟩
  | 104 => ⟨S1x1024, .f32⟩
  | 105 => ⟨S1024, .f32⟩
  | 106 => ⟨S1x1x1024, .f32⟩
  | 107 => ⟨S128x8x1024, .f32⟩
  | 108 => ⟨S128x8x1024, .f32⟩
  | 109 => ⟨S128x8x1024, .f32⟩
  | 110 => ⟨S1x1x1024, .f32⟩
  | 111 => ⟨S128x8x1024, .f32⟩
  | 112 => ⟨S128x8x1024, .f32⟩
  | 113 => ⟨S1024x1024, .f32⟩
  | 114 => ⟨S128x30x1024, .f32⟩
  | 115 => ⟨S30x128x1024, .f32⟩
  | _ => ⟨S1024x9216, .bf16⟩

abbrev hbmTy (i : Nat) : BufTy := match i / 128 with
  | 0 => hbmTy0_0 i
  | 1 => hbmTy0_1 i
  | _ => ⟨S1024x9216, .bf16⟩

abbrev bufTy : (tb : Table) → Fin (tcTables nBuf tb) → BufTy
  | .hbm, ⟨i, _⟩ => hbmTy i
  | _, _ => ⟨S1024x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩
abbrev main_v233 : Ref sig .tc := ⟨.hbm, 240, rfl⟩
abbrev main_v234 : Ref sig .tc := ⟨.hbm, 241, rfl⟩
abbrev main_v235 : Ref sig .tc := ⟨.hbm, 242, rfl⟩
abbrev main_v236 : Ref sig .tc := ⟨.hbm, 243, rfl⟩

abbrev nD : Nat := 1
abbrev τ : Topo := Topo.v7x

variable {F : FTy → Type} [FloatOps F]
-- ==== Proof.ProjBase.lean ====
/-
  What the runs of the projection's body share: when each of its three branches is taken, the staging buffers a point
  uses, and the launch invariant with the scratch buffer named.
-/
module

public import proofs.«01_k».proof.Proof.Gen.KernelIdeal.Frame
public import proofs.«01_k».proof.Proof.Gen.KernelIdeal.Skeleton

@[expose] public section

set_option maxRecDepth 16384

noncomputable section

namespace Cert.Proof.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches -/

/-- The first branch: the rows are normalised. -/
abbrev isFirst (i : grid0.Coords) : Prop :=
  (Scalar.cmpi .ne (Scalar.extui (Scalar.cmpi .eq (BitVec.ofNat 32 (i 1).val) 0#32)) 0#32) = 1#1

/-- The second branch: a tile of the first 9216 columns is computed. -/
abbrev isWide (i : grid0.Coords) : Prop := k0_cond2 i = 1#1

/-- The third branch: the last tile, with keys, values and indexer columns, is computed. -/
abbrev isLast (i : grid0.Coords) : Prop := k0_cond3 i = 1#1

theorem isFirst_iff : ∀ t : Fin cfg0.N, isFirst (grid0.coords t) ↔ t.val % 7 = 0 :=
  (by decide +kernel : ∀ t : Fin grid0.N, isFirst (grid0.coords t) ↔ t.val % 7 = 0)

theorem isWide_iff : ∀ t : Fin cfg0.N, isWide (grid0.coords t) ↔ t.val % 7 ≤ 5 :=
  (by decide +kernel : ∀ t : Fin grid0.N, isWide (grid0.coords t) ↔ t.val % 7 ≤ 5)

theorem isLast_iff : ∀ t : Fin cfg0.N, isLast (grid0.coords t) ↔ t.val % 7 = 6 :=
  (by decide +kernel : ∀ t : Fin grid0.N, isLast (grid0.coords t) ↔ t.val % 7 = 6)

/-! ## The staging buffers a point uses -/

abbrev st0 (t : Fin cfg0.N) : Memref sig .tc .vmem S1024x2048 .f32 := win0_0.stage (cfg0.slots t 0)
abbrev wh0 (t : Fin cfg0.N) : (st0 t).IsWhole := hstage0_0 ((cfg0.slots t 0).cast nbuf0_0)
abbrev st1 (t : Fin cfg0.N) : Memref sig .tc .vmem S1x2048 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S1536x2048 .bf16 := win0_2.stage (cfg0.slots t 2)
abbrev wh2 (t : Fin cfg0.N) : (st2 t).IsWhole := hstage0_2 ((cfg0.slots t 2).cast nbuf0_2)
abbrev st3 (t : Fin cfg0.N) : Memref sig .tc .vmem S1024x1536 .bf16 := win0_3.stage (cfg0.slots t 3)
abbrev wh3 (t : Fin cfg0.N) : (st3 t).IsWhole := hstage0_3 ((cfg0.slots t 3).cast nbuf0_3)
abbrev st4 (t : Fin cfg0.N) : Memref sig .tc .vmem S1024x1152 .f32 := win0_4.stage (cfg0.slots t 4)
abbrev wh4 (t : Fin cfg0.N) : (st4 t).IsWhole := hstage0_4 ((cfg0.slots t 4).cast nbuf0_4)
abbrev st5 (t : Fin cfg0.N) : Memref sig .tc .vmem S2048x128 .f32 := win0_5.stage (cfg0.slots t 5)
abbrev wh5 (t : Fin cfg0.N) : (st5 t).IsWhole := hstage0_5 ((cfg0.slots t 5).cast nbuf0_5)
abbrev st6 (t : Fin cfg0.N) : Memref sig .tc .vmem S2048x128 .f32 := win0_6.stage (cfg0.slots t 6)
abbrev wh6 (t : Fin cfg0.N) : (st6 t).IsWhole := hstage0_6 ((cfg0.slots t 6).cast nbuf0_6)
abbrev st7 (t : Fin cfg0.N) : Memref sig .tc .vmem S1x64x1024 .f32 := win0_7.stage (cfg0.slots t 7)
abbrev wh7 (t : Fin cfg0.N) : (st7 t).IsWhole := hstage0_7 ((cfg0.slots t 7).cast nbuf0_7)

/-- The scratch buffer: the normalised rows. -/
abbrev scratch : Memref sig .tc .vmem S1024x2048 .bf16 := Memref.whole cc0_scratch0

/-- The launch invariant, with the scratch buffer owned at some contents. -/
theorem launch_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

end Cert.Proof.Proj

end
-- ==== Proof.ProjLayout.lean ====
/-
  Where the last tile of a row block goes: the keys, the values and the indexer's columns, as functions of the tile.
-/
module

public import proofs.«01_k».proof.Proof.ProjBase
public import Idealize.ShloMosaic.Lib.Pointwise
public import Idealize.ShloMosaic.Lib.Pipeline.ValueKit

@[expose] public section

set_option maxRecDepth 16384

noncomputable section

namespace Cert.Proof.Proj

open Cert.KernelIdeal Cert.KernelIdeal.Gen
open Idealize.ShloMosaic

variable {F : FTy → Type} [FloatOps F]

/-- Row `2 r + h`, lane `d`, of the heads of a tile from column `o`: the tile's row `r`, column `o + 128 h + d`. -/
def heads (o : ℕ) (ho : o + 256 ≤ 1152) (x : Vec F S1024x1152 .f32) : Vec F S2048x128 .f32 := fun y =>
  x (ix2 (⟨(y 0).val / 2, by have : (y 0).val < 2048 := (y 0).isLt; omega⟩ : Fin 1024)
    (⟨o + (y 0).val % 2 * 128 + (y 1).val, by have : (y 1).val < 128 := (y 1).isLt; omega⟩ : Fin 1152))

/-- The indexer's columns of a tile, transposed. -/
def indexer (x : Vec F S1024x1152 .f32) : Vec F S1x64x1024 .f32 := fun y =>
  x (ix2 (⟨(y 2).val, (y 2).isLt⟩ : Fin 1024) (⟨1024 + (y 1).val, by have : (y 1).val < 64 := (y 1).isLt; omega⟩ : Fin 1152))

/-- The even rows and the odd rows are all the rows. -/
theorem heads_cover (p q : _) (y : S2048x128.Idx) :
    ∃ pc ∈ [(⟨⟨⟨![1, 0], S1024x128.size, ![2, 1], inb_S2048x128_S1024x128_1_0_s_2_1⟩, spos_2_1⟩, p⟩ : View.Piece (Elt F) S2048x128 .f32),
      ⟨⟨⟨![0, 0], S1024x128.size, ![2, 1], inb_S2048x128_S1024x128_0_0_s_2_1⟩, spos_2_1⟩, q⟩], y ∈ pc.1.set := by
  have h0 : (y 0).val < 2048 := (y 0).isLt
  have h1 : (y 1).val < 128 := (y 1).isLt
  rcases Nat.mod_two_eq_zero_or_one (y 0).val with h | h
  · refine ⟨_, List.mem_cons_of_mem _ List.mem_cons_self, (LoadRect.mem_set _).mpr fun a => ?_⟩
    fin_cases a
    · exact ⟨(y 0).val / 2, show (y 0).val / 2 < 1024 by omega, show (y 0).val = 0 + 2 * ((y 0).val / 2) by omega⟩
    · exact ⟨(y 1).val, h1, show (y 1).val = 0 + 1 * (y 1).val by omega⟩
  · refine ⟨_, List.mem_cons_self, (LoadRect.mem_set _).mpr fun a => ?_⟩
    fin_cases a
    · exact ⟨(y 0).val / 2, show (y 0).val / 2 < 1024 by omega, show (y 0).val = 1 + 2 * ((y 0).val / 2) by omega⟩
    · exact ⟨(y 1).val, h1, show (y 1).val = 0 + 1 * (y 1).val by omega⟩

/-- A tile stored whole and read back through a box is the tile at the box's places. -/
theorem readCov_tile (v : View sig .tc .vmem S1024x1152 .f32) (x : Vec F S1024x1152 .f32) (B : LoadRect S1024x1152) :
    v.readCov (Val := Elt F) [⟨Rect.unit ![0, 0] ![1024, 1152] inb_S1024x1152_S1024x1152_0_0, x⟩] B = fun j => x (B.idx j) := by
  rw [View.readCov_eq_canon', View.canon_cons_unit_lit _ _ _ (by decide)]

/-- A place of the tile is a place of its heads, when row and column say so. -/
theorem heads_at (o : ℕ) (ho : o + 256 ≤ 1152) (x : Vec F S1024x1152 .f32) (z : S1024x1152.Idx) (y : S2048x128.Idx)
    (h0 : (z 0).val = (y 0).val / 2) (h1 : (z 1).val = o + (y 0).val % 2 * 128 + (y 1).val) : x z = heads o ho x y :=
  congrArg x (funext fun a => by
    fin_cases a
    · exact Fin.ext h0
    · exact Fin.ext h1)

/-- A place of the tile is a place of its indexer's columns, when row and column say so. -/
theorem indexer_at (x : Vec F S1024x1152 .f32) (z : S1024x1152.Idx) (y : S1x64x1024.Idx)
    (h0 : (z 0).val = (y 2).val) (h1 : (z 1).val = 1024 + (y 1).val) : x z = indexer x y :=
  congrArg x (funext fun a => by
    fin_cases a
    · exact Fin.ext h0
    · exact Fin.ext h1)

/-- Turning a square of the tile and keeping its first 64 rows reads it the other way about. -/
theorem turned (v : Vec F S128x128 .f32) (a : Fin 1) (r : Fin 64) (l : Fin 128) :
    k0_pay5 v (ix3 a r l) = v (ix2 l (⟨r.val, by omega⟩ : Fin 128)) := by
  pointwise [k0_pay5]

end Cert.Proof.Proj

end
-- ==== Proof.ProjFirst.lean ====
/-
  The body at the first point of a row block: the rows are normalised into the scratch buffer, and the first tile of the
  wide output is computed from them.
-/
module

public import proofs.«01_k».proof.Proof.ProjLayout
public import Idealize.ShloMosaic.Lib.VecWindow

@[expose] public section

set_option maxRecDepth 16384

noncomputable section

namespace Cert.Proof.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (a0 : Memref sig .tc .vmem S1024x2048 .f32) (w0 : a0.IsWhole) (a1 : Memref sig .tc .vmem S1x2048 .f32) (w1 : a1.IsWhole)
  (a2 : Memref sig .tc .vmem S1536x2048 .bf16) (w2 : a2.IsWhole) (a3 : Memref sig .tc .vmem S1024x1536 .bf16) (w3 : a3.IsWhole)
  (a4 : Memref sig .tc .vmem S1024x1152 .f32) (w4 : a4.IsWhole) (a5 : Memref sig .tc .vmem S2048x128 .f32) (w5 : a5.IsWhole)
  (a6 : Memref sig .tc .vmem S2048x128 .f32) (w6 : a6.IsWhole) (a7 : Memref sig .tc .vmem S1x64x1024 .f32) (w7 : a7.IsWhole)
  (a8 : Memref sig .tc .vmem S1024x2048 .bf16) (w8 : a8.IsWhole)
  (x0 : Vec F S1024x2048 .f32) (x1 : Vec F S1x2048 .f32) (x2 : Vec F S1536x2048 .bf16)

set_option maxHeartbeats 1000000 in
/-- At a first point the scratch buffer ends at the normalised rows, the wide output's buffer at their product. -/
theorem run_first (h1 : isFirst i) (h2 : isWide i) (h3 : ¬isLast i) (x4 : Vec F S1024x1152 .f32) (x5 x6 : Vec F S2048x128 .f32) (x7 : Vec F S1x64x1024 .f32) (E : Set ℕ) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare (k0_pay2 (k0_pay1 x0 x1) x2) ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (k0_pay1 x0 x1)) -∗ K ⟨⟩))
      ⊢ wp frame (wpE (defs₀ (F := F)) Variants.none c none) E (cc0_proj i a0 w0 a1 w1 a2 w2 a3 w3 a4 w4 a5 w5 a6 w6 a7 w7 a8 w8) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%d8, %f8, -, H8⟩, Hk⟩
  obtain rfl := w0.eq_unread hf0; obtain rfl := w1.eq_unread hf1; obtain rfl := w2.eq_unread hf2
  obtain rfl := w4.eq_unread hf4; obtain rfl := w5.eq_unread hf5; obtain rfl := w6.eq_unread hf6; obtain rfl := w7.eq_unread hf7
  sl_exec (disch := first | sl_exact h1 | sl_exact h2 | sl_exact h3)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; swap; · iexact H3
    ipureintro
    frame_out
    exact View.read_writes_full _ _ inb_S1024x1536_S1024x1536_0_0 _ _
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  iexists _; isplitr; swap; · iexact H8
  ipureintro
  frame_out
  exact View.read_writes_full _ _ inb_S1024x2048_S1024x2048_0_0 _ _

end Cert.Proof.Proj

end
-- ==== Proof.ProjMiddle.lean ====
/-
  The body at a point between: a tile of the wide output is computed from the normalised rows.
-/
module

public import proofs.«01_k».proof.Proof.ProjLayout
public import Idealize.ShloMosaic.Lib.VecWindow

@[expose] public section

set_option maxRecDepth 16384

noncomputable section

namespace Cert.Proof.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (a0 : Memref sig .tc .vmem S1024x2048 .f32) (w0 : a0.IsWhole) (a1 : Memref sig .tc .vmem S1x2048 .f32) (w1 : a1.IsWhole)
  (a2 : Memref sig .tc .vmem S1536x2048 .bf16) (w2 : a2.IsWhole) (a3 : Memref sig .tc .vmem S1024x1536 .bf16) (w3 : a3.IsWhole)
  (a4 : Memref sig .tc .vmem S1024x1152 .f32) (w4 : a4.IsWhole) (a5 : Memref sig .tc .vmem S2048x128 .f32) (w5 : a5.IsWhole)
  (a6 : Memref sig .tc .vmem S2048x128 .f32) (w6 : a6.IsWhole) (a7 : Memref sig .tc .vmem S1x64x1024 .f32) (w7 : a7.IsWhole)
  (a8 : Memref sig .tc .vmem S1024x2048 .bf16) (w8 : a8.IsWhole)
  (x0 : Vec F S1024x2048 .f32) (x1 : Vec F S1x2048 .f32) (x2 : Vec F S1536x2048 .bf16)

set_option maxHeartbeats 1000000 in
/-- At a point between, the wide output's buffer ends at the product of the normalised rows. -/
theorem run_middle (h1 : ¬isFirst i) (h2 : isWide i) (h3 : ¬isLast i) (x4 : Vec F S1024x1152 .f32) (x5 x6 : Vec F S2048x128 .f32) (x7 : Vec F S1x64x1024 .f32) (xs : Vec F S1024x2048 .bf16) (E : Set ℕ) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xs
        ∗ (iprop(owns (c : Thread nD τ) a0 fullShare x0 ∗ owns (c : Thread nD τ) a1 fullShare x1 ∗ owns (c : Thread nD τ) a2 fullShare x2 ∗ owns (c : Thread nD τ) a3 fullShare (k0_pay2 xs x2) ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xs) -∗ K ⟨⟩))
      ⊢ wp frame (wpE (defs₀ (F := F)) Variants.none c none) E (cc0_proj i a0 w0 a1 w1 a2 w2 a3 w3 a4 w4 a5 w5 a6 w6 a7 w7 a8 w8) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%f8, %hf8, H8⟩, Hk⟩
  obtain rfl := w0.eq_unread hf0; obtain rfl := w1.eq_unread hf1; obtain rfl := w2.eq_unread hf2
  obtain rfl := w4.eq_unread hf4; obtain rfl := w5.eq_unread hf5; obtain rfl := w6.eq_unread hf6; obtain rfl := w7.eq_unread hf7
  obtain rfl := w8.eq_unread hf8
  sl_exec (disch := first | sl_exact h1 | sl_exact h2 | sl_exact h3)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; swap; · iexact H3
    ipureintro
    frame_out
    exact View.read_writes_full _ _ inb_S1024x1536_S1024x1536_0_0 _ _
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  iexists _; isplitr; · ipureintro; exact w8.read_unread _
  iexact H8

end Cert.Proof.Proj

end
-- ==== Proof.ProjLast.lean ====
/-
  The body at the last point of a row block: the last tile, and its keys, values and indexer columns laid out.
-/
module

public import proofs.«01_k».proof.Proof.ProjLayout
public import Idealize.ShloMosaic.Lib.VecWindow

@[expose] public section

set_option maxRecDepth 16384

noncomputable section

namespace Cert.Proof.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (a0 : Memref sig .tc .vmem S1024x2048 .f32) (w0 : a0.IsWhole) (a1 : Memref sig .tc .vmem S1x2048 .f32) (w1 : a1.IsWhole)
  (a2 : Memref sig .tc .vmem S1536x2048 .bf16) (w2 : a2.IsWhole) (a3 : Memref sig .tc .vmem S1024x1536 .bf16) (w3 : a3.IsWhole)
  (a4 : Memref sig .tc .vmem S1024x1152 .f32) (w4 : a4.IsWhole) (a5 : Memref sig .tc .vmem S2048x128 .f32) (w5 : a5.IsWhole)
  (a6 : Memref sig .tc .vmem S2048x128 .f32) (w6 : a6.IsWhole) (a7 : Memref sig .tc .vmem S1x64x1024 .f32) (w7 : a7.IsWhole)
  (a8 : Memref sig .tc .vmem S1024x2048 .bf16) (w8 : a8.IsWhole)
  (x0 : Vec F S1024x2048 .f32) (x1 : Vec F S1x2048 .f32) (x2 : Vec F S1536x2048 .bf16)

set_option maxHeartbeats 1000000 in
/-- At a last point the tile's buffer ends at the product of the normalised rows, and the keys', the values' and the indexer's
    buffers at its columns; the wide output's buffer is left as it was. -/
theorem run_last (h1 : ¬isFirst i) (h2 : ¬isWide i) (h3 : isLast i) (x3 : Vec F S1024x1536 .bf16) (xs : Vec F S1024x2048 .bf16) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ owns (c : Thread nD τ) a8 fullShare xs
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (k0_pay6 xs x2) ∗ owns (c : Thread nD τ) a5 fullShare (heads 0 (by decide) (k0_pay6 xs x2)) ∗ owns (c : Thread nD τ) a6 fullShare (heads 256 (by decide) (k0_pay6 xs x2)) ∗ owns (c : Thread nD τ) a7 fullShare (indexer (k0_pay6 xs x2)) ∗ owns (c : Thread nD τ) a8 fullShare xs) -∗ K ⟨⟩))
      ⊢ wp frame (wpE (defs₀ (F := F)) Variants.none c none) E (cc0_proj i a0 w0 a1 w1 a2 w2 a3 w3 a4 w4 a5 w5 a6 w6 a7 w7 a8 w8) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, Hk⟩
  obtain rfl := w0.eq_unread hf0; obtain rfl := w1.eq_unread hf1; obtain rfl := w2.eq_unread hf2
  obtain rfl := w3.eq_unread hf3; obtain rfl := w8.eq_unread hf8
  sl_exec (disch := first | sl_exact h1 | sl_exact h2 | sl_exact h3)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; swap; · iexact H4
    ipureintro
    frame_out
    exact View.read_writes_full _ _ inb_S1024x1152_S1024x1152_0_0 _ _
  isplitl [H5]
  · iexists _; isplitr; swap; · iexact H5
    ipureintro
    refine funext fun y => View.read_writes_apply_of_pieces _ _ (heads 0 (by decide) (k0_pay6 xs x2)) _ ?_ y (heads_cover _ _ y)
    intro p hp x
    simp only [List.mem_cons, List.not_mem_nil, _root_.or_false] at hp
    rcases hp with rfl | rfl
    all_goals
      frame_out
      rw [readCov_tile]
      first
        | unfold k0_pay7
        | unfold k0_pay8
        | unfold k0_pay9
        | unfold k0_pay10
      rw [shapeCast_self]
      first
        | exact heads_at _ _ _ _ _ (show 0 + 1 * (x 0).val = (1 + 2 * (x 0).val) / 2 by omega)
            (show 128 + 1 * (x 1).val = 0 + (1 + 2 * (x 0).val) % 2 * 128 + (0 + 1 * (x 1).val) by omega)
        | exact heads_at _ _ _ _ _ (show 0 + 1 * (x 0).val = (0 + 2 * (x 0).val) / 2 by omega)
            (show 0 + 1 * (x 1).val = 0 + (0 + 2 * (x 0).val) % 2 * 128 + (0 + 1 * (x 1).val) by omega)
  isplitl [H6]
  · iexists _; isplitr; swap; · iexact H6
    ipureintro
    refine funext fun y => View.read_writes_apply_of_pieces _ _ (heads 256 (by decide) (k0_pay6 xs x2)) _ ?_ y (heads_cover _ _ y)
    intro p hp x
    simp only [List.mem_cons, List.not_mem_nil, _root_.or_false] at hp
    rcases hp with rfl | rfl
    all_goals
      frame_out
      rw [readCov_tile]
      first
        | unfold k0_pay7
        | unfold k0_pay8
        | unfold k0_pay9
        | unfold k0_pay10
      rw [shapeCast_self]
      first
        | exact heads_at _ _ _ _ _ (show 0 + 1 * (x 0).val = (1 + 2 * (x 0).val) / 2 by omega)
            (show 384 + 1 * (x 1).val = 256 + (1 + 2 * (x 0).val) % 2 * 128 + (0 + 1 * (x 1).val) by omega)
        | exact heads_at _ _ _ _ _ (show 0 + 1 * (x 0).val = (0 + 2 * (x 0).val) / 2 by omega)
            (show 256 + 1 * (x 1).val = 256 + (0 + 2 * (x 0).val) % 2 * 128 + (0 + 1 * (x 1).val) by omega)
  isplitl [H7]
  · iexists _; isplitr; swap; · iexact H7
    ipureintro
    refine funext fun y => View.read_writes_apply_of_pieces _ _ (indexer (k0_pay6 xs x2)) _ ?_ y (View.cover_of_tiledL _ ![1, 64, 128] (by sl_kernel_rfl) y)
    intro p hp x
    simp only [List.mem_cons, List.not_mem_nil, _root_.or_false] at hp
    rcases hp with rfl | rfl | rfl | rfl | rfl | rfl | rfl | rfl
    all_goals
      frame_out
      rw [readCov_tile]
      obtain ⟨a, r, l, rfl⟩ : ∃ (a : Fin 1) (r : Fin 64) (l : Fin 128), x = ix3 a r l :=
        ⟨x 0, x 1, x 2, by funext q; fin_cases q <;> rfl⟩
      refine (turned _ a r l).trans (indexer_at _ _ _ ?_ ?_)
      · exact rfl
      · show 1024 + 1 * r.val = 1024 + (0 + 1 * r.val)
        omega
  iexists _; isplitr; · ipureintro; exact w8.read_unread _
  iexact H8

end Cert.Proof.Proj

end
-- ==== Proof.ProjFrame.lean ====
/-
  The projection's frame: what its buffers hold after each point, the body's obligation by the runs of the three kinds of
  points, and the run of the whole program.

  The points of a row block are seven. At the first the block's rows are normalised into the scratch buffer, and until the
  last the scratch buffer keeps them. At the last point the wide output's buffer is not written, but is sent back: it still
  holds the tile of the point before.
-/
module

public import proofs.«01_k».proof.Proof.ProjFirst
public import proofs.«01_k».proof.Proof.ProjMiddle
public import proofs.«01_k».proof.Proof.ProjLast
public import Idealize.ShloMosaic.Lib.Quiescent

@[expose] public section

set_option maxRecDepth 16384

noncomputable section

namespace Cert.Proof.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first point of a point's row block. -/
def first (t : Fin cfg0.N) : Fin cfg0.N := ⟨t.val - t.val % 7, lt_of_le_of_lt (Nat.sub_le _ _) t.isLt⟩

/-- The point before. -/
def prev (t : Fin cfg0.N) : Fin cfg0.N := ⟨t.val - 1, lt_of_le_of_lt (Nat.sub_le _ _) t.isLt⟩

/-- The point whose tile the wide output's buffer holds. -/
def tileOf (t : Fin cfg0.N) : Fin cfg0.N := if t.val % 7 = 6 then prev t else t

theorem first_of_first (t : Fin cfg0.N) (h : t.val % 7 = 0) : first t = t :=
  Fin.ext (show t.val - t.val % 7 = t.val by omega)

theorem first_prev (t : Fin cfg0.N) (h : ¬t.val % 7 = 0) : first (prev t) = first t :=
  Fin.ext (show t.val - 1 - (t.val - 1) % 7 = t.val - t.val % 7 by omega)

/-- The normalised rows of a point's row block. -/
def rows (c : Dev nD) (t : Fin cfg0.N) : Vec F S1024x2048 .bf16 := k0_pay1 (iblk m c 0 (first t)) (iblk m c 1 (first t))

theorem rows_first (c : Dev nD) (t : Fin cfg0.N) (h : t.val % 7 = 0) : rows m c t = k0_pay1 (iblk m c 0 t) (iblk m c 1 t) := by
  unfold rows; rw [first_of_first t h]

theorem rows_prev (c : Dev nD) (t : Fin cfg0.N) (h : ¬t.val % 7 = 0) : rows m c (prev t) = rows m c t := by
  unfold rows; rw [first_prev t h]

/-- The wide output's tile. -/
def wide (c : Dev nD) (t : Fin cfg0.N) : Vec F S1024x1536 .bf16 := k0_pay2 (rows m c t) (iblk m c 2 (tileOf t))

theorem wide_live (c : Dev nD) (t : Fin cfg0.N) (h : ¬t.val % 7 = 6) : wide m c t = k0_pay2 (rows m c t) (iblk m c 2 t) := by
  unfold wide tileOf; rw [if_neg h]

theorem wide_prev (c : Dev nD) (t : Fin cfg0.N) (h : t.val % 7 = 6) : wide m c (prev t) = wide m c t := by
  unfold wide
  rw [rows_prev m c t (by omega), show tileOf (prev t) = tileOf t from by
    exact (if_neg (show ¬(t.val - 1) % 7 = 6 by omega)).trans (if_pos h).symm]

/-- The last tile. -/
def last (c : Dev nD) (t : Fin cfg0.N) : Vec F S1024x1152 .f32 := k0_pay6 (rows m c t) (iblk m c 2 t)

/-! ## The invariant and the data -/

/-- Before the first point the launch's; after a point, the scratch buffer at that point's rows. -/
def inv (c : Dev nD) : (n : ℕ) → n ≤ cfg0.N → sProp 𝕄
  | 0, _ => Pipeline.ΦA spec0 c
  | n + 1, hn => iprop(owns (c : Thread nD τ) scratch fullShare (rows m c ⟨n, hn⟩) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(owns (c : Thread nD τ) scratch fullShare (rows m c ⟨n, hn⟩) ∗ (∃ r, prngReg c r)) := rfl

theorem inv_pos (c : Dev nD) (n : ℕ) (h : n ≤ cfg0.N) (hz : n ≠ 0) :
    inv m c n h = iprop(owns (c : Thread nD τ) scratch fullShare (rows m c ⟨n - 1, by omega⟩) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wide m c t
    | ⟨4, _⟩ => last m c t
    | ⟨5, _⟩ => heads 0 (by decide) (last m c t)
    | ⟨6, _⟩ => heads 256 (by decide) (last m c t)
    | ⟨7, _⟩ => indexer (last m c t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = wide m c t := by dsimp only [dats]
theorem after_4 (c : Dev nD) (t : Fin cfg0.N) : (dats m 0 c).after 4 t = last m c t := by dsimp only [dats]
theorem after_5 (c : Dev nD) (t : Fin cfg0.N) : (dats m 0 c).after 5 t = heads 0 (by decide) (last m c t) := by dsimp only [dats]
theorem after_6 (c : Dev nD) (t : Fin cfg0.N) : (dats m 0 c).after 6 t = heads 256 (by decide) (last m c t) := by dsimp only [dats]
theorem after_7 (c : Dev nD) (t : Fin cfg0.N) : (dats m 0 c).after 7 t = indexer (last m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## Where each output is stored and sent back -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, ¬t.val % 7 = 6 → cfg0.idle 3 (grid0.coords t) = false := by decide +kernel
theorem idle_3 : ∀ t : Fin cfg0.N, t.val % 7 = 6 → cfg0.idle 3 (grid0.coords t) = true := by decide +kernel
theorem sent_3 : ∀ t : Fin cfg0.N, t.val % 7 = 6 → (cfg0.win 3).flush t = true := by decide +kernel
theorem held_3 : ∀ t : Fin cfg0.N, t.val % 7 = 6 → (cfg0.win 3).flush (prev t) = false := by decide +kernel
theorem live_4 : ∀ t : Fin cfg0.N, t.val % 7 = 6 → cfg0.idle 4 (grid0.coords t) = false := by decide +kernel
theorem idle_4 : ∀ t : Fin cfg0.N, ¬t.val % 7 = 6 → cfg0.idle 4 (grid0.coords t) = true := by decide +kernel
theorem held_4 : ∀ t : Fin cfg0.N, ¬t.val % 7 = 6 → (cfg0.win 4).flush t = false := by decide +kernel
theorem live_5 : ∀ t : Fin cfg0.N, t.val % 7 = 6 → cfg0.idle 5 (grid0.coords t) = false := by decide +kernel
theorem idle_5 : ∀ t : Fin cfg0.N, ¬t.val % 7 = 6 → cfg0.idle 5 (grid0.coords t) = true := by decide +kernel
theorem held_5 : ∀ t : Fin cfg0.N, ¬t.val % 7 = 6 → (cfg0.win 5).flush t = false := by decide +kernel
theorem live_6 : ∀ t : Fin cfg0.N, t.val % 7 = 6 → cfg0.idle 6 (grid0.coords t) = false := by decide +kernel
theorem idle_6 : ∀ t : Fin cfg0.N, ¬t.val % 7 = 6 → cfg0.idle 6 (grid0.coords t) = true := by decide +kernel
theorem held_6 : ∀ t : Fin cfg0.N, ¬t.val % 7 = 6 → (cfg0.win 6).flush t = false := by decide +kernel
theorem live_7 : ∀ t : Fin cfg0.N, t.val % 7 = 6 → cfg0.idle 7 (grid0.coords t) = false := by decide +kernel
theorem idle_7 : ∀ t : Fin cfg0.N, ¬t.val % 7 = 6 → cfg0.idle 7 (grid0.coords t) = true := by decide +kernel
theorem held_7 : ∀ t : Fin cfg0.N, ¬t.val % 7 = 6 → (cfg0.win 7).flush t = false := by decide +kernel

/-- At the last point of a row block the wide output's buffer holds what it must send back. -/
theorem before_3 (c : Dev nD) (t : Fin cfg0.N) (h : t.val % 7 = 6) (d) : (dats m 0 c).before 3 t d = wide m c t := by
  rw [(dats m 0 c).before_of_pos 3 t (by omega) ((cfg0.win 3).fetch_out rfl t)]
  rw [show (cfg0.win 3).flush ⟨t.val - 1, Nat.lt_of_le_of_lt (Nat.sub_le _ _) t.isLt⟩ = false from held_3 t h, if_neg Bool.false_ne_true]
  unfold Dat.left
  rw [show cfg0.idle 3 (cfg0.grid.coords ⟨t.val - 1, Nat.lt_of_le_of_lt (Nat.sub_le _ _) t.isLt⟩) = false from
    live_3 (prev t) (show ¬(t.val - 1) % 7 = 6 by omega)]
  refine Eq.trans ?_ (wide_prev m c t h)
  show (dats m 0 c).kept 3 (prev t) d = _
  unfold Dat.kept
  rw [Pipeline.fill_of_clip_none (cfg := cfg0) 3 _ (fun _ => rfl) d ((dats m 0 c).after 3 _), Window.fill_cut]
  exact after_3 m c (prev t)

/-! ## The obligation -/

/-- What the body is called with at a point, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point, by the kind of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = inv m c (t.val + 1) t.isLt from rfl, inv_succ]
  rw [show (dats m 0 c).leavesExact 0 t = owns (c : Thread nD τ) (st0 t) fullShare ((dats m 0 c).after 0 t) from by
    unfold Dat.leavesExact; rw [live_0 t], after_0]
  rw [show (dats m 0 c).leavesExact 1 t = owns (c : Thread nD τ) (st1 t) fullShare ((dats m 0 c).after 1 t) from by
    unfold Dat.leavesExact; rw [live_1 t], after_1]
  rw [show (dats m 0 c).leavesExact 2 t = owns (c : Thread nD τ) (st2 t) fullShare ((dats m 0 c).after 2 t) from by
    unfold Dat.leavesExact; rw [live_2 t], after_2]
  by_cases h6 : t.val % 7 = 6
  · have h0 : ¬t.val % 7 = 0 := by omega
    rw [show (dats m 0 c).leavesExact 3 t = owns (c : Thread nD τ) (st3 t) fullShare ((dats m 0 c).after 3 t) from by
      unfold Dat.leavesExact; rw [idle_3 t h6, sent_3 t h6], after_3]
    rw [show (dats m 0 c).leavesExact 4 t = owns (c : Thread nD τ) (st4 t) fullShare ((dats m 0 c).after 4 t) from by
      unfold Dat.leavesExact; rw [live_4 t h6], after_4]
    rw [show (dats m 0 c).leavesExact 5 t = owns (c : Thread nD τ) (st5 t) fullShare ((dats m 0 c).after 5 t) from by
      unfold Dat.leavesExact; rw [live_5 t h6], after_5]
    rw [show (dats m 0 c).leavesExact 6 t = owns (c : Thread nD τ) (st6 t) fullShare ((dats m 0 c).after 6 t) from by
      unfold Dat.leavesExact; rw [live_6 t h6], after_6]
    rw [show (dats m 0 c).leavesExact 7 t = owns (c : Thread nD τ) (st7 t) fullShare ((dats m 0 c).after 7 t) from by
      unfold Dat.leavesExact; rw [live_7 t h6], after_7]
    simp only [before_3 m c t h6]
    rw [inv_castSucc m c t, inv_pos m c _ _ (by omega), show rows m c ⟨t.val - 1, _⟩ = rows m c t from rows_prev m c t h0]
    unfold last
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_last c (grid0.coords t) (st0 t) (wh0 t) (st1 t) (wh1 t) (st2 t) (wh2 t) (st3 t) (wh3 t) (st4 t) (wh4 t) (st5 t) (wh5 t) (st6 t) (wh6 t) (st7 t) (wh7 t)
      scratch (Memref.isWhole_whole _) (iblk m c 0 t) (iblk m c 1 t) (iblk m c 2 t)
      (fun h => h0 ((isFirst_iff t).mp h)) (fun h => by have := (isWide_iff t).mp h; omega) ((isLast_iff t).mpr h6) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 3 t = owns (c : Thread nD τ) (st3 t) fullShare ((dats m 0 c).after 3 t) from by
      unfold Dat.leavesExact; rw [live_3 t h6], after_3]
    rw [Dat.leavesExact_idle (dats m 0 c) 4 t (idle_4 t h6) (held_4 t h6)]
    rw [Dat.leavesExact_idle (dats m 0 c) 5 t (idle_5 t h6) (held_5 t h6)]
    rw [Dat.leavesExact_idle (dats m 0 c) 6 t (idle_6 t h6) (held_6 t h6)]
    rw [Dat.leavesExact_idle (dats m 0 c) 7 t (idle_7 t h6) (held_7 t h6)]
    by_cases h0 : t.val % 7 = 0
    · rw [wide_live m c t h6, rows_first m c t h0, inv_castSucc m c t]
      by_cases hz : t.val = 0
      · rw [inv_zero m c _ _ hz, launch_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run_first c (grid0.coords t) (st0 t) (wh0 t) (st1 t) (wh1 t) (st2 t) (wh2 t) (st3 t) (wh3 t) (st4 t) (wh4 t) (st5 t) (wh5 t) (st6 t) (wh6 t) (st7 t) (wh7 t)
          scratch (Memref.isWhole_whole _) (iblk m c 0 t) (iblk m c 1 t) (iblk m c 2 t)
          ((isFirst_iff t).mpr h0) ((isWide_iff t).mpr (by omega)) (fun h => h6 ((isLast_iff t).mp h)) _ _ _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        iexists _; iexact H7
      · rw [inv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run_first c (grid0.coords t) (st0 t) (wh0 t) (st1 t) (wh1 t) (st2 t) (wh2 t) (st3 t) (wh3 t) (st4 t) (wh4 t) (st5 t) (wh5 t) (st6 t) (wh6 t) (st7 t) (wh7 t)
          scratch (Memref.isWhole_whole _) (iblk m c 0 t) (iblk m c 1 t) (iblk m c 2 t)
          ((isFirst_iff t).mpr h0) ((isWide_iff t).mpr (by omega)) (fun h => h6 ((isLast_iff t).mp h)) _ _ _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        iexists _; iexact H7
    · rw [wide_live m c t h6, inv_castSucc m c t, inv_pos m c _ _ (by omega), show rows m c ⟨t.val - 1, _⟩ = rows m c t from rows_prev m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_middle c (grid0.coords t) (st0 t) (wh0 t) (st1 t) (wh1 t) (st2 t) (wh2 t) (st3 t) (wh3 t) (st4 t) (wh4 t) (st5 t) (wh5 t) (st6 t) (wh6 t) (st7 t) (wh7 t)
        scratch (Memref.isWhole_whole _) (iblk m c 0 t) (iblk m c 1 t) (iblk m c 2 t)
        (fun h => h0 ((isFirst_iff t).mp h)) ((isWide_iff t).mpr (by omega)) (fun h => h6 ((isLast_iff t).mp h)) _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iexists _; iexact H7

theorem defs₀_row (t : Fin cfg0.N) :
    defs₀ (F := F) .tc cfg0.body (cfg0.bodyArgs t (cfg0.slots t)) = bodyAt0 t := by
  unfold defs₀; rw [Defs.onTc_tc]

/-- The pipeline's obligation on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the launch's back. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 112 := N_0; omega), launch_eq]
  iintro ⟨HS, Hg⟩
  isplitl [HS]
  · iexists _; iexact HS
  iexact Hg

/-! ## The run and the frame -/

set_option backward.isDefEq.respectTransparency.types false in
/-- Every run ends, with the arrays as the pipeline's data compute them and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_arrays : θ_run defs (onTc (τ := τ) (main (F := F))) (s₀ m ρ) (Pipeline.FramePost cfgs (dats m) 0 (V m)) :=
  (θ_run defs _ _).mono (fun _ h => h.1) (run_quiet m ρ)

/-- The arguments end as they were, and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run_quiet m ρ))

end Cert.Proof.Proj

end
-- ==== Proof.TailSpec.lean ====
/-
  The tail of the layer, one row at a time, over the extended reals: from a row of the projected features (the two
  `z` gates and the two branch gates), of the attention, of the depthwise convolution and of the layer's input, and
  from the weights, the row of the layer's output. Both the kernel and the reference compute this function.
-/
module

public import Idealize.ShloMosaic.Lib.Pointwise

@[expose] public section

noncomputable section

namespace Cert.Proof.Tail

open Idealize.ShloMosaic

/-- `x * logistic x`. -/
def silu (x : EReal) : EReal := x * Ideal.logistic x

/-- The sum of `f` divided by the number the float word `w` denotes. -/
def mean {n : ℕ} (w : BitVec 32) (f : Fin n → EReal) : EReal := Ideal.div (∑ k : Fin n, f k) (Ideal.ofBits .f32 w)

/-- The float constant `1e-6`. -/
def eps : EReal := Ideal.ofBits .f32 0x358637BD#32

/-- Layer normalisation of a row of 1024, with gain `g` and bias `b`. -/
def layerNorm (x g b : Fin 1024 → EReal) (k : Fin 1024) : EReal :=
  (x k - mean 0x44800000#32 x)
      * Ideal.rsqrt (mean 0x44800000#32 (fun l : Fin 1024 => (x l - mean 0x44800000#32 x) * (x l - mean 0x44800000#32 x)) + eps)
      * g k + b k

/-- The attention branch: the gated attention times its output weights. -/
def branchAttn (a za : Fin 1024 → EReal) (w : Fin 1024 → Fin 2048 → EReal) (j : Fin 2048) : EReal :=
  ∑ k : Fin 1024, a k * silu (za k) * w k j

/-- The convolution branch: normalised, activated, mixed pointwise, gated, times its output weights. `ln` is the
    normalised row after its activation. -/
def branchConv (ln zc bpw : Fin 1024 → EReal) (wpw : Fin 1024 → Fin 1024 → EReal) (wuc : Fin 1024 → Fin 2048 → EReal)
    (j : Fin 2048) : EReal :=
  ∑ k : Fin 1024, ((∑ l : Fin 1024, ln l * wpw l k) + bpw k) * silu (zc k) * wuc k j

/-- The residual row: the input plus the gated sum of the branches times the output weights. -/
def residual (ga gc x ba bc : Fin 2048 → EReal) (wo : Fin 2048 → Fin 2048 → EReal) (j : Fin 2048) : EReal :=
  x j + ∑ k : Fin 2048, (Ideal.logistic (ga k) * ba k + Ideal.logistic (gc k) * bc k) * wo k j

/-- The final root-mean-square normalisation. -/
def rmsNorm (y g : Fin 2048 → EReal) (j : Fin 2048) : EReal :=
  y j * Ideal.rsqrt (mean 0x45000000#32 (fun l : Fin 2048 => y l * y l) + eps) * g j

/-- The whole tail of one row. -/
def row (a za dw zc : Fin 1024 → EReal) (ga gc x : Fin 2048 → EReal) (wua : Fin 1024 → Fin 2048 → EReal)
    (wpw : Fin 1024 → Fin 1024 → EReal) (wuc : Fin 1024 → Fin 2048 → EReal) (wo : Fin 2048 → Fin 2048 → EReal)
    (ng nb bpw : Fin 1024 → EReal) (fg : Fin 2048 → EReal) : Fin 2048 → EReal :=
  rmsNorm (residual ga gc x (branchAttn a za wua)
    (branchConv (fun k => silu (layerNorm dw ng nb k)) zc bpw wpw wuc) wo) fg

end Cert.Proof.Tail

end
-- ==== Proof.ProjSpec.lean ====
/-
  The projection, one entry at a time, over the extended reals: a root-mean-square normalised row of the input times a row
  of the weights. Kernel and reference both compute this; here it is read off the kernel's payloads and off the reference.
-/
module

public import proofs.«01_k».proof.Proof.TailSpec
public import proofs.«01_k».proof.Proof.Gen.KernelIdeal.Skeleton
public import proofs.«01_k».proof.Proof.Gen.ReferenceIdeal.Read
public import Idealize.ShloMosaic.Lib.Pointwise

@[expose] public section

noncomputable section

namespace Cert.Proof.Proj

open Idealize.ShloMosaic

/-- A normalised row, with gain `g`, times a row of weights. -/
def entry (x g w : Fin 2048 → EReal) : EReal := ∑ k : Fin 2048, Tail.rmsNorm x g k * w k

section Kernel

open Cert.KernelIdeal Cert.KernelIdeal.Gen

theorem pay1_apply (x : Vec Ideal S1024x2048 .f32) (g : Vec Ideal S1x2048 .f32) (r : Fin 1024) (k : Fin 2048) :
    k0_pay1 (F := Ideal) x g (ix2 r k) = Tail.rmsNorm (fun l => x (ix2 r l)) (fun l => g (ix2 0 l)) k := by
  pointwise [k0_pay1, Tail.rmsNorm, Tail.mean, Tail.eps]

theorem pay2_apply (x : Vec Ideal S1024x2048 .bf16) (w : Vec Ideal S1536x2048 .bf16) (r : Fin 1024) (j : Fin 1536) :
    k0_pay2 (F := Ideal) x w (ix2 r j) = ∑ k : Fin 2048, x (ix2 r k) * w (ix2 j k) := by
  pointwise [k0_pay2]

theorem pay6_apply (x : Vec Ideal S1024x2048 .bf16) (w : Vec Ideal S1536x2048 .bf16) (r : Fin 1024) (j : Fin 1152) :
    k0_pay6 (F := Ideal) x w (ix2 r j) = ∑ k : Fin 2048, x (ix2 r k) * w (ix2 (⟨j.val, by omega⟩ : Fin 1536) k) := by
  pointwise [k0_pay6]

end Kernel

section Reference

open Cert.ReferenceIdeal Cert.ReferenceIdeal.Gen Cert.ReferenceIdeal.Read

variable (x : Vec Ideal S16384x2048 .f32) (g : Vec Ideal S2048 .f32) (w : Vec Ideal S10752x2048 .bf16)

/-- The projection's entry at row `i`, column `j`. -/
def proj (i : Fin 16384) (j : Fin 10752) : EReal :=
  entry (fun k => x (ix2 i k)) (fun k => g (ix1 k)) (fun k => w (ix2 j k))

theorem ref_v15 (i : Fin 16384) (j : Fin 10752) : val_main_v15 (F := Ideal) x g w (ix2 i j) = proj x g w i j := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, proj, entry, Tail.rmsNorm, Tail.mean, Tail.eps]

/-- The same at an index whose coordinates are known. -/
theorem ref_at (z : S16384x10752.Idx) (i : Fin 16384) (j : Fin 10752) (h0 : (z 0).val = i.val) (h1 : (z 1).val = j.val) :
    val_main_v15 (F := Ideal) x g w z = proj x g w i j := by
  rw [← ref_v15]
  exact congrArg _ (funext fun a => by
    fin_cases a
    · exact Fin.ext h0
    · exact Fin.ext h1)

theorem ref_v17 (i : Fin 16384) (j : Fin 9216) :
    val_main_v17 (F := Ideal) x g w (ix2 i j) = proj x g w i ⟨j.val, by omega⟩ := by
  rw [val_main_v17_apply, val_main_v16_apply]
  exact ref_at x g w _ _ _ (by simp [idx_main_v16]) (by simp [idx_main_v16])

theorem ref_v18 (i : Fin 16384) (j : Fin 1152) :
    val_main_v18 (F := Ideal) x g w (ix2 i j) = proj x g w i ⟨9216 + j.val, by omega⟩ := by
  rw [val_main_v18_apply]
  exact ref_at x g w _ _ _ (by simp [idx_main_v18]) (by simp [idx_main_v18])

theorem ref_v20 (i : Fin 32768) (d : Fin 128) :
    val_main_v20 (F := Ideal) x g w (ix2 i d)
      = proj x g w ⟨i.val / 2, by omega⟩ ⟨9216 + (i.val % 2 * 128 + d.val), by omega⟩ := by
  rw [val_main_v20_apply, val_main_v19_apply]
  exact ref_at x g w _ _ _ (by simp [idx_main_v19, idx_main_v20]; omega) (by simp [idx_main_v19, idx_main_v20]; omega)

theorem ref_v22 (i : Fin 32768) (d : Fin 128) :
    val_main_v22 (F := Ideal) x g w (ix2 i d)
      = proj x g w ⟨i.val / 2, by omega⟩ ⟨9472 + (i.val % 2 * 128 + d.val), by omega⟩ := by
  rw [val_main_v22_apply, val_main_v21_apply]
  exact ref_at x g w _ _ _ (by simp [idx_main_v21, idx_main_v22]; omega) (by simp [idx_main_v21, idx_main_v22]; omega)

theorem ref_v25 (b : Fin 8) (d : Fin 64) (s : Fin 2048) :
    val_main_v25 (F := Ideal) x g w (ix3 b d s)
      = proj x g w ⟨b.val * 2048 + s.val, by omega⟩ ⟨10240 + d.val, by omega⟩ := by
  rw [val_main_v25_apply, val_main_v24_apply, val_main_v23_apply]
  exact ref_at x g w _ _ _ (by simp [idx_main_v23, idx_main_v24, idx_main_v25]; omega)
    (by simp [idx_main_v23, idx_main_v24, idx_main_v25])

end Reference

end Cert.Proof.Proj

end
-- ==== Proof.ProjValue.lean ====
/-
  The projection's result arrays: after the run they are the reference's, as functions of the arguments. A row block is 1024
  rows and seven points; the wide output's tiles are sent back one by one, the others' once per row block.
-/
module

public import proofs.«01_k».proof.Proof.ProjFrame
public import proofs.«01_k».proof.Proof.ProjSpec
public import Idealize.ShloMosaic.Lib.Pipeline.ValueKit
public import Idealize.ShloMosaic.Lib.Claim

@[expose] public section

set_option maxRecDepth 16384

noncomputable section

namespace Cert.Proof.Proj

open Idealize.ShloMosaic Idealize.ShloMosaic.TcCoe Idealize.SL.Sem
open Cert.KernelIdeal Cert.KernelIdeal.Gen

variable (m : (ℓ : Loc nD τ sig) → Buf (Elt Ideal) ℓ)

/-- The blocks a point reads. -/
theorem idx_in : ∀ t : Fin cfg0.N, win0_0.index (first t) = ![t.val / 7, 0] ∧ win0_1.index (first t) = ![0, 0]
    ∧ win0_2.index t = ![t.val % 7, 0] ∧ win0_2.index (tileOf t) = ![min (t.val % 7) 5, 0] ∧ t.val / 7 < 16 :=
  (by decide +kernel : ∀ t : Fin grid0.N, _)

/-- The blocks a point sends back to. -/
theorem idx_out : ∀ t : Fin cfg0.N, win0_3.index t = ![t.val / 7, min (t.val % 7) 5] ∧ win0_4.index t = ![t.val / 7, 0]
    ∧ win0_5.index t = ![t.val / 7, 0] ∧ win0_6.index t = ![t.val / 7, 0] ∧ win0_7.index t = ![t.val / 14, 0, t.val / 7 % 2] :=
  (by decide +kernel : ∀ t : Fin grid0.N, _)

/-- The projection of the kernel's arguments. -/
abbrev value (c : Dev nD) (i : Fin 16384) (j : Fin 10752) : EReal :=
  proj (m ((c : Thread nD τ).loc main_arg0)) (m ((c : Thread nD τ).loc main_arg1)) (m ((c : Thread nD τ).loc main_arg2)) i j

/-- The normalised rows a point works with. -/
theorem rows_apply (c : Dev nD) (t : Fin cfg0.N) (r : Fin 1024) (k : Fin 2048) (i : Fin 16384) (hi : i.val = t.val / 7 * 1024 + r.val) :
    rows m c t (ix2 r k) = Tail.rmsNorm (fun l => (m ((c : Thread nD τ).loc main_arg0) : Vec Ideal S16384x2048 .f32) (ix2 i l))
      (fun l => (m ((c : Thread nD τ).loc main_arg1) : Vec Ideal S2048 .f32) (ix1 l)) k := by
  unfold rows
  rw [pay1_apply]
  congr 1
  · funext l; blk_ext [iblk, V, idx_in t]
  · funext l; blk_ext! [iblk, V, idx_in t]

/-- The wide output's tile at a point. -/
theorem wide_apply (c : Dev nD) (t : Fin cfg0.N) (r : Fin 1024) (j : Fin 1536) (i : Fin 16384) (q : Fin 10752)
    (hi : i.val = t.val / 7 * 1024 + r.val) (hq : q.val = min (t.val % 7) 5 * 1536 + j.val) :
    wide m c t (ix2 r j) = value m c i q := by
  unfold wide
  rw [pay2_apply]
  unfold value proj entry
  refine Finset.sum_congr rfl fun k _ => ?_
  rw [rows_apply m c t r k i hi]
  congr 1
  blk_ext [iblk, V, idx_in t]

/-- The last tile, at a last point. -/
theorem last_apply (c : Dev nD) (t : Fin cfg0.N) (h : t.val % 7 = 6) (r : Fin 1024) (j : Fin 1152) (i : Fin 16384) (q : Fin 10752)
    (hi : i.val = t.val / 7 * 1024 + r.val) (hq : q.val = 9216 + j.val) :
    last m c t (ix2 r j) = value m c i q := by
  unfold last
  rw [pay6_apply]
  unfold value proj entry
  refine Finset.sum_congr rfl fun k _ => ?_
  rw [rows_apply m c t r k i hi]
  congr 1
  blk_ext [iblk, V, idx_in t]

/-! ## The result arrays -/

/-- The wide projection. -/
theorem final_3 (c : Dev nD) : (dats m 0 c).arrAt 3 (cfgs 0).N = Cert.ReferenceIdeal.Read.val_main_v17 (F := Ideal)
    (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after_3]
  obtain ⟨r, j, rfl⟩ : ∃ (r : Fin 1024) (j : Fin 1536), y = ix2 r j := ⟨y 0, y 1, by funext a; fin_cases a <;> rfl⟩
  have ht := (idx_in t).2.2.2.2
  have hr : t.val / 7 * 1024 + r.val < 16384 := by omega
  have hj : min (t.val % 7) 5 * 1536 + j.val < 9216 := by omega
  refine (wide_apply m c t r j ⟨_, hr⟩ ⟨_, by omega⟩ rfl rfl).trans ?_
  refine (ref_v17 _ _ _ (⟨_, hr⟩ : Fin 16384) (⟨_, hj⟩ : Fin 9216)).symm.trans (congrArg _ ?_)
  blk_ext [idx_out t]

/-- The last tile whole. -/
theorem final_4 (c : Dev nD) : (dats m 0 c).arrAt 4 (cfgs 0).N = Cert.ReferenceIdeal.Read.val_main_v18 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  have h6 : t.val % 7 = 6 := (flush0_4 t).mp hf
  blk_simp
  rw [after_4]
  obtain ⟨r, j, rfl⟩ : ∃ (r : Fin 1024) (j : Fin 1152), y = ix2 r j := ⟨y 0, y 1, by funext a; fin_cases a <;> rfl⟩
  have ht := (idx_in t).2.2.2.2
  have hr : t.val / 7 * 1024 + r.val < 16384 := by omega
  refine (last_apply m c t h6 r j ⟨_, hr⟩ ⟨9216 + j.val, by omega⟩ rfl rfl).trans ?_
  refine (ref_v18 _ _ _ (⟨_, hr⟩ : Fin 16384) j).symm.trans (congrArg _ ?_)
  blk_ext [idx_out t]

/-- The keys, two heads a row. -/
theorem final_5 (c : Dev nD) : (dats m 0 c).arrAt 5 (cfgs 0).N = Cert.ReferenceIdeal.Read.val_main_v20 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  have h6 : t.val % 7 = 6 := (flush0_5 t).mp hf
  blk_simp
  rw [after_5]
  obtain ⟨r, d, rfl⟩ : ∃ (r : Fin 2048) (d : Fin 128), y = ix2 r d := ⟨y 0, y 1, by funext a; fin_cases a <;> rfl⟩
  have ht := (idx_in t).2.2.2.2
  have hr : t.val / 7 * 2048 + r.val < 32768 := by omega
  refine (last_apply m c t h6 (⟨r.val / 2, by omega⟩ : Fin 1024) (⟨0 + r.val % 2 * 128 + d.val, by omega⟩ : Fin 1152)
    ⟨(t.val / 7 * 2048 + r.val) / 2, by omega⟩ ⟨9216 + ((t.val / 7 * 2048 + r.val) % 2 * 128 + d.val), by omega⟩
    (by show (t.val / 7 * 2048 + r.val) / 2 = t.val / 7 * 1024 + r.val / 2; omega)
    (by show 9216 + ((t.val / 7 * 2048 + r.val) % 2 * 128 + d.val) = 9216 + (0 + r.val % 2 * 128 + d.val); omega)).trans ?_
  refine (ref_v20 _ _ _ (⟨_, hr⟩ : Fin 32768) d).symm.trans (congrArg _ ?_)
  blk_ext [idx_out t]

/-- The values, two heads a row. -/
theorem final_6 (c : Dev nD) : (dats m 0 c).arrAt 6 (cfgs 0).N = Cert.ReferenceIdeal.Read.val_main_v22 (F := Ideal)
    (m ((c : Thread nD τ).loc main_arg0)) (m ((c : Thread nD τ).loc main_arg1)) (m ((c : Thread nD τ).loc main_arg2)) := by
  refine (dats m 0 c).arrAt_eq_of_covers 6 _ (by decide +kernel) fun t hf y => ?_
  have h6 : t.val % 7 = 6 := (flush0_6 t).mp hf
  blk_simp
  rw [after_6]
  obtain ⟨r, d, rfl⟩ : ∃ (r : Fin 2048) (d : Fin 128), y = ix2 r d := ⟨y 0, y 1, by funext a; fin_cases a <;> rfl⟩
  have ht := (idx_in t).2.2.2.2
  have hr : t.val / 7 * 2048 + r.val < 32768 := by omega
  refine (last_apply m c t h6 (⟨r.val / 2, by omega⟩ : Fin 1024) (⟨256 + r.val % 2 * 128 + d.val, by omega⟩ : Fin 1152)
    ⟨(t.val / 7 * 2048 + r.val) / 2, by omega⟩ ⟨9472 + ((t.val / 7 * 2048 + r.val) % 2 * 128 + d.val), by omega⟩
    (by show (t.val / 7 * 2048 + r.val) / 2 = t.val / 7 * 1024 + r.val / 2; omega)
    (by show 9472 + ((t.val / 7 * 2048 + r.val) % 2 * 128 + d.val) = 9216 + (256 + r.val % 2 * 128 + d.val); omega)).trans ?_
  refine (ref_v22 _ _ _ (⟨_, hr⟩ : Fin 32768) d).symm.trans (congrArg _ ?_)
  blk_ext [idx_out t]

/-- The indexer's keys, transposed. -/
theorem final_7 (c : Dev nD) : (dats m 0 c).arrAt 7 (cfgs 0).N = Cert.ReferenceIdeal.Read.val_main_v25 (F := Ideal)
    (m ((c : Thread nD τ).loc main_arg0)) (m ((c : Thread nD τ).loc main_arg1)) (m ((c : Thread nD τ).loc main_arg2)) := by
  refine (dats m 0 c).arrAt_eq_of_covers 7 _ (by decide +kernel) fun t hf y => ?_
  have h6 : t.val % 7 = 6 := (flush0_7 t).mp hf
  blk_simp
  rw [after_7]
  obtain ⟨b, d, s, rfl⟩ : ∃ (b : Fin 1) (d : Fin 64) (s : Fin 1024), y = ix3 b d s :=
    ⟨y 0, y 1, y 2, by funext a; fin_cases a <;> rfl⟩
  have ht := (idx_in t).2.2.2.2
  have hb : t.val / 14 < 8 := by omega
  have hs : t.val / 7 % 2 * 1024 + s.val < 2048 := by omega
  refine (last_apply m c t h6 s (⟨1024 + d.val, by omega⟩ : Fin 1152)
    ⟨t.val / 14 * 2048 + (t.val / 7 % 2 * 1024 + s.val), by omega⟩ ⟨10240 + d.val, by omega⟩
    (by show t.val / 14 * 2048 + (t.val / 7 % 2 * 1024 + s.val) = t.val / 7 * 1024 + s.val; omega)
    (by show 10240 + d.val = 9216 + (1024 + d.val); omega)).trans ?_
  refine (ref_v25 _ _ _ (⟨_, hb⟩ : Fin 8) d (⟨_, hs⟩ : Fin 2048)).symm.trans (congrArg _ ?_)
  blk_ext [idx_out t]

end Cert.Proof.Proj

end
-- ==== Proof.ProjClaims.lean ====
/-
  The claims about the projection: its frames, and its equality with the reference over the extended reals.
-/
module

public import proofs.«01_k».proof.Defs
public import proofs.«01_k».proof.Proof.BitsFrame
public import proofs.«01_k».proof.Proof.ProjValue
public import proofs.«01_k».proof.Proof.Gen.ReferenceIdeal.Run
public import proofs.«01_k».proof.Proof.Gen.ReferenceIdeal.Read
public import Idealize.ShloMosaic.Lib.Quiescent

@[expose] public section

noncomputable section

namespace Cert.Proof.Proj

open Idealize.ShloMosaic Idealize.ShloMosaic.TcCoe Idealize.SL.Sem

/-- The kernel leaves its arguments unchanged. -/
theorem frame_kernel : Cert.quiescent_Kernel := fun m ρ _ => ProjBits.frame_main m ρ

/-- So does its idealization. -/
theorem frame_kernelIdeal : Cert.quiescent_KernelIdeal := fun m ρ _ => frame_main m ρ

/-- So does the reference. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

section Kernel

open Cert.KernelIdeal Cert.KernelIdeal.Gen

/-- The kernel's run, its results read off. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v1_0) = (dats m 0 c).arrAt 3 (cfgs 0).N
      ∧ r.2.mem ((c.tc : Thread nD τ).loc main_v1_1) = (dats m 0 c).arrAt 4 (cfgs 0).N
      ∧ r.2.mem ((c.tc : Thread nD τ).loc main_v1_2) = (dats m 0 c).arrAt 5 (cfgs 0).N
      ∧ r.2.mem ((c.tc : Thread nD τ).loc main_v1_3) = (dats m 0 c).arrAt 6 (cfgs 0).N
      ∧ r.2.mem ((c.tc : Thread nD τ).loc main_v1_4) = (dats m 0 c).arrAt 7 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨⟨(h.1 c).1 3, (h.1 c).1 4, (h.1 c).1 5, (h.1 c).1 6, (h.1 c).1 7⟩, h.2 c⟩)
    (θ_run_and (run_arrays m ρ) (frame_of m ρ (dats m) (A_eq m) (run_arrays m ρ)))

end Kernel

/-- Kernel and reference end with the same five results. -/
theorem algebraic : Cert.algebraic_KernelIdeal_ReferenceIdeal := by
  intro m g m' g' _ hagree
  refine ⟨fun c => (dats m 0 c).arrAt 3 (Cert.KernelIdeal.cfgs 0).N, fun c => (dats m 0 c).arrAt 4 (Cert.KernelIdeal.cfgs 0).N, fun c => (dats m 0 c).arrAt 5 (Cert.KernelIdeal.cfgs 0).N,
    fun c => (dats m 0 c).arrAt 6 (Cert.KernelIdeal.cfgs 0).N, fun c => (dats m 0 c).arrAt 7 (Cert.KernelIdeal.cfgs 0).N, ?_, ?_⟩
  · exact (θ_run Cert.KernelIdeal.defs _ _).mono
      (fun _ h c => ⟨(h c).1.1, (h c).1.2.1, (h c).1.2.2.1, (h c).1.2.2.2.1, (h c).1.2.2.2.2, (h c).2⟩) (run_results m g)
  · refine (θ_run Cert.ReferenceIdeal.defs _ _).mono (fun _ h c => ?_) (Cert.ReferenceIdeal.Value.run (F := Ideal) m' g')
    obtain ⟨e0, e1, e2, e3, e4, ea⟩ := h c
    obtain ⟨h0, h1, h2⟩ := hagree c
    refine ⟨e0.trans ?_, e1.trans ?_, e2.trans ?_, e3.trans ?_, e4.trans ?_, ea⟩
    · refine (Cert.ReferenceIdeal.Read.val_main_v17_eq _ _ _).trans ((?_ : _ = _).trans (final_3 m c).symm)
      rw [h0, h1, h2]
    · refine (Cert.ReferenceIdeal.Read.val_main_v18_eq _ _ _).trans ((?_ : _ = _).trans (final_4 m c).symm)
      rw [h0, h1, h2]
    · refine (Cert.ReferenceIdeal.Read.val_main_v20_eq _ _ _).trans ((?_ : _ = _).trans (final_5 m c).symm)
      rw [h0, h1, h2]
    · refine (Cert.ReferenceIdeal.Read.val_main_v22_eq _ _ _).trans ((?_ : _ = _).trans (final_6 m c).symm)
      rw [h0, h1, h2]
    · refine (Cert.ReferenceIdeal.Read.val_main_v25_eq _ _ _).trans ((?_ : _ = _).trans (final_7 m c).symm)
      rw [h0, h1, h2]

end Cert.Proof.Proj

end
-- ==== Proof.SampleBase.lean ====
/-
  At the sample batch's size, 1024 rows.

  What the runs of the projection's body share: when each of its three branches is taken, the staging buffers a point
  uses, and the launch invariant with the scratch buffer named.
-/
module

public import proofs.«01_k».proof.Proof.Gen.Kernel3Ideal.Frame
public import proofs.«01_k».proof.Proof.Gen.Kernel3Ideal.Skeleton

@[expose] public section

set_option maxRecDepth 16384

noncomputable section

namespace Cert.Proof.Sample

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches -/

/-- The first branch: the rows are normalised. -/
abbrev isFirst (i : grid0.Coords) : Prop :=
  (Scalar.cmpi .ne (Scalar.extui (Scalar.cmpi .eq (BitVec.ofNat 32 (i 1).val) 0#32)) 0#32) = 1#1

/-- The second branch: a tile of the first 9216 columns is computed. -/
abbrev isWide (i : grid0.Coords) : Prop := k0_cond2 i = 1#1

/-- The third branch: the last tile, with keys, values and indexer columns, is computed. -/
abbrev isLast (i : grid0.Coords) : Prop := k0_cond3 i = 1#1

theorem isFirst_iff : ∀ t : Fin cfg0.N, isFirst (grid0.coords t) ↔ t.val % 7 = 0 :=
  (by decide +kernel : ∀ t : Fin grid0.N, isFirst (grid0.coords t) ↔ t.val % 7 = 0)

theorem isWide_iff : ∀ t : Fin cfg0.N, isWide (grid0.coords t) ↔ t.val % 7 ≤ 5 :=
  (by decide +kernel : ∀ t : Fin grid0.N, isWide (grid0.coords t) ↔ t.val % 7 ≤ 5)

theorem isLast_iff : ∀ t : Fin cfg0.N, isLast (grid0.coords t) ↔ t.val % 7 = 6 :=
  (by decide +kernel : ∀ t : Fin grid0.N, isLast (grid0.coords t) ↔ t.val % 7 = 6)

/-! ## The staging buffers a point uses -/

abbrev st0 (t : Fin cfg0.N) : Memref sig .tc .vmem S1024x2048 .f32 := win0_0.stage (cfg0.slots t 0)
abbrev wh0 (t : Fin cfg0.N) : (st0 t).IsWhole := hstage0_0 ((cfg0.slots t 0).cast nbuf0_0)
abbrev st1 (t : Fin cfg0.N) : Memref sig .tc .vmem S1x2048 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S1536x2048 .bf16 := win0_2.stage (cfg0.slots t 2)
abbrev wh2 (t : Fin cfg0.N) : (st2 t).IsWhole := hstage0_2 ((cfg0.slots t 2).cast nbuf0_2)
abbrev st3 (t : Fin cfg0.N) : Memref sig .tc .vmem S1024x1536 .bf16 := win0_3.stage (cfg0.slots t 3)
abbrev wh3 (t : Fin cfg0.N) : (st3 t).IsWhole := hstage0_3 ((cfg0.slots t 3).cast nbuf0_3)
abbrev st4 (t : Fin cfg0.N) : Memref sig .tc .vmem S1024x1152 .f32 := win0_4.stage (cfg0.slots t 4)
abbrev wh4 (t : Fin cfg0.N) : (st4 t).IsWhole := hstage0_4 ((cfg0.slots t 4).cast nbuf0_4)
abbrev st5 (t : Fin cfg0.N) : Memref sig .tc .vmem S2048x128 .f32 := win0_5.stage (cfg0.slots t 5)
abbrev wh5 (t : Fin cfg0.N) : (st5 t).IsWhole := hstage0_5 ((cfg0.slots t 5).cast nbuf0_5)
abbrev st6 (t : Fin cfg0.N) : Memref sig .tc .vmem S2048x128 .f32 := win0_6.stage (cfg0.slots t 6)
abbrev wh6 (t : Fin cfg0.N) : (st6 t).IsWhole := hstage0_6 ((cfg0.slots t 6).cast nbuf0_6)
abbrev st7 (t : Fin cfg0.N) : Memref sig .tc .vmem S1x64x1024 .f32 := win0_7.stage (cfg0.slots t 7)
abbrev wh7 (t : Fin cfg0.N) : (st7 t).IsWhole := hstage0_7 ((cfg0.slots t 7).cast nbuf0_7)

/-- The scratch buffer: the normalised rows. -/
abbrev scratch : Memref sig .tc .vmem S1024x2048 .bf16 := Memref.whole cc0_scratch0

/-- The launch invariant, with the scratch buffer owned at some contents. -/
theorem launch_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

end Cert.Proof.Sample

end
-- ==== Proof.SampleLayout.lean ====
/-
  At the sample batch's size, 1024 rows.

  Where the last tile of a row block goes: the keys, the values and the indexer's columns, as functions of the tile.
-/
module

public import proofs.«01_k».proof.Proof.SampleBase
public import Idealize.ShloMosaic.Lib.Pointwise
public import Idealize.ShloMosaic.Lib.Pipeline.ValueKit

@[expose] public section

set_option maxRecDepth 16384

noncomputable section

namespace Cert.Proof.Sample

open Cert.Kernel3Ideal Cert.Kernel3Ideal.Gen
open Idealize.ShloMosaic

variable {F : FTy → Type} [FloatOps F]

/-- Row `2 r + h`, lane `d`, of the heads of a tile from column `o`: the tile's row `r`, column `o + 128 h + d`. -/
def heads (o : ℕ) (ho : o + 256 ≤ 1152) (x : Vec F S1024x1152 .f32) : Vec F S2048x128 .f32 := fun y =>
  x (ix2 (⟨(y 0).val / 2, by have : (y 0).val < 2048 := (y 0).isLt; omega⟩ : Fin 1024)
    (⟨o + (y 0).val % 2 * 128 + (y 1).val, by have : (y 1).val < 128 := (y 1).isLt; omega⟩ : Fin 1152))

/-- The indexer's columns of a tile, transposed. -/
def indexer (x : Vec F S1024x1152 .f32) : Vec F S1x64x1024 .f32 := fun y =>
  x (ix2 (⟨(y 2).val, (y 2).isLt⟩ : Fin 1024) (⟨1024 + (y 1).val, by have : (y 1).val < 64 := (y 1).isLt; omega⟩ : Fin 1152))

/-- The even rows and the odd rows are all the rows. -/
theorem heads_cover (p q : _) (y : S2048x128.Idx) :
    ∃ pc ∈ [(⟨⟨⟨![1, 0], S1024x128.size, ![2, 1], inb_S2048x128_S1024x128_1_0_s_2_1⟩, spos_2_1⟩, p⟩ : View.Piece (Elt F) S2048x128 .f32),
      ⟨⟨⟨![0, 0], S1024x128.size, ![2, 1], inb_S2048x128_S1024x128_0_0_s_2_1⟩, spos_2_1⟩, q⟩], y ∈ pc.1.set := by
  have h0 : (y 0).val < 2048 := (y 0).isLt
  have h1 : (y 1).val < 128 := (y 1).isLt
  rcases Nat.mod_two_eq_zero_or_one (y 0).val with h | h
  · refine ⟨_, List.mem_cons_of_mem _ List.mem_cons_self, (LoadRect.mem_set _).mpr fun a => ?_⟩
    fin_cases a
    · exact ⟨(y 0).val / 2, show (y 0).val / 2 < 1024 by omega, show (y 0).val = 0 + 2 * ((y 0).val / 2) by omega⟩
    · exact ⟨(y 1).val, h1, show (y 1).val = 0 + 1 * (y 1).val by omega⟩
  · refine ⟨_, List.mem_cons_self, (LoadRect.mem_set _).mpr fun a => ?_⟩
    fin_cases a
    · exact ⟨(y 0).val / 2, show (y 0).val / 2 < 1024 by omega, show (y 0).val = 1 + 2 * ((y 0).val / 2) by omega⟩
    · exact ⟨(y 1).val, h1, show (y 1).val = 0 + 1 * (y 1).val by omega⟩

/-- A tile stored whole and read back through a box is the tile at the box's places. -/
theorem readCov_tile (v : View sig .tc .vmem S1024x1152 .f32) (x : Vec F S1024x1152 .f32) (B : LoadRect S1024x1152) :
    v.readCov (Val := Elt F) [⟨Rect.unit ![0, 0] ![1024, 1152] inb_S1024x1152_S1024x1152_0_0, x⟩] B = fun j => x (B.idx j) := by
  rw [View.readCov_eq_canon', View.canon_cons_unit_lit _ _ _ (by decide)]

/-- A place of the tile is a place of its heads, when row and column say so. -/
theorem heads_at (o : ℕ) (ho : o + 256 ≤ 1152) (x : Vec F S1024x1152 .f32) (z : S1024x1152.Idx) (y : S2048x128.Idx)
    (h0 : (z 0).val = (y 0).val / 2) (h1 : (z 1).val = o + (y 0).val % 2 * 128 + (y 1).val) : x z = heads o ho x y :=
  congrArg x (funext fun a => by
    fin_cases a
    · exact Fin.ext h0
    · exact Fin.ext h1)

/-- A place of the tile is a place of its indexer's columns, when row and column say so. -/
theorem indexer_at (x : Vec F S1024x1152 .f32) (z : S1024x1152.Idx) (y : S1x64x1024.Idx)
    (h0 : (z 0).val = (y 2).val) (h1 : (z 1).val = 1024 + (y 1).val) : x z = indexer x y :=
  congrArg x (funext fun a => by
    fin_cases a
    · exact Fin.ext h0
    · exact Fin.ext h1)

/-- Turning a square of the tile and keeping its first 64 rows reads it the other way about. -/
theorem turned (v : Vec F S128x128 .f32) (a : Fin 1) (r : Fin 64) (l : Fin 128) :
    k0_pay5 v (ix3 a r l) = v (ix2 l (⟨r.val, by omega⟩ : Fin 128)) := by
  pointwise [k0_pay5]

end Cert.Proof.Sample

end
-- ==== Proof.SampleFirst.lean ====
/-
  At the sample batch's size, 1024 rows.

  The body at the first point of a row block: the rows are normalised into the scratch buffer, and the first tile of the
  wide output is computed from them.
-/
module

public import proofs.«01_k».proof.Proof.SampleLayout
public import Idealize.ShloMosaic.Lib.VecWindow

@[expose] public section

set_option maxRecDepth 16384

noncomputable section

namespace Cert.Proof.Sample

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (a0 : Memref sig .tc .vmem S1024x2048 .f32) (w0 : a0.IsWhole) (a1 : Memref sig .tc .vmem S1x2048 .f32) (w1 : a1.IsWhole)
  (a2 : Memref sig .tc .vmem S1536x2048 .bf16) (w2 : a2.IsWhole) (a3 : Memref sig .tc .vmem S1024x1536 .bf16) (w3 : a3.IsWhole)
  (a4 : Memref sig .tc .vmem S1024x1152 .f32) (w4 : a4.IsWhole) (a5 : Memref sig .tc .vmem S2048x128 .f32) (w5 : a5.IsWhole)
  (a6 : Memref sig .tc .vmem S2048x128 .f32) (w6 : a6.IsWhole) (a7 : Memref sig .tc .vmem S1x64x1024 .f32) (w7 : a7.IsWhole)
  (a8 : Memref sig .tc .vmem S1024x2048 .bf16) (w8 : a8.IsWhole)
  (x0 : Vec F S1024x2048 .f32) (x1 : Vec F S1x2048 .f32) (x2 : Vec F S1536x2048 .bf16)

set_option maxHeartbeats 1000000 in
/-- At a first point the scratch buffer ends at the normalised rows, the wide output's buffer at their product. -/
theorem run_first (h1 : isFirst i) (h2 : isWide i) (h3 : ¬isLast i) (x4 : Vec F S1024x1152 .f32) (x5 x6 : Vec F S2048x128 .f32) (x7 : Vec F S1x64x1024 .f32) (E : Set ℕ) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare (k0_pay2 (k0_pay1 x0 x1) x2) ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (k0_pay1 x0 x1)) -∗ K ⟨⟩))
      ⊢ wp frame (wpE (defs₀ (F := F)) Variants.none c none) E (cc0_proj i a0 w0 a1 w1 a2 w2 a3 w3 a4 w4 a5 w5 a6 w6 a7 w7 a8 w8) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%d8, %f8, -, H8⟩, Hk⟩
  obtain rfl := w0.eq_unread hf0; obtain rfl := w1.eq_unread hf1; obtain rfl := w2.eq_unread hf2
  obtain rfl := w4.eq_unread hf4; obtain rfl := w5.eq_unread hf5; obtain rfl := w6.eq_unread hf6; obtain rfl := w7.eq_unread hf7
  sl_exec (disch := first | sl_exact h1 | sl_exact h2 | sl_exact h3)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; swap; · iexact H3
    ipureintro
    frame_out
    exact View.read_writes_full _ _ inb_S1024x1536_S1024x1536_0_0 _ _
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  iexists _; isplitr; swap; · iexact H8
  ipureintro
  frame_out
  exact View.read_writes_full _ _ inb_S1024x2048_S1024x2048_0_0 _ _

end Cert.Proof.Sample

end
-- ==== Proof.SampleMiddle.lean ====
/-
  At the sample batch's size, 1024 rows.

  The body at a point between: a tile of the wide output is computed from the normalised rows.
-/
module

public import proofs.«01_k».proof.Proof.SampleLayout
public import Idealize.ShloMosaic.Lib.VecWindow

@[expose] public section

set_option maxRecDepth 16384

noncomputable section

namespace Cert.Proof.Sample

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (a0 : Memref sig .tc .vmem S1024x2048 .f32) (w0 : a0.IsWhole) (a1 : Memref sig .tc .vmem S1x2048 .f32) (w1 : a1.IsWhole)
  (a2 : Memref sig .tc .vmem S1536x2048 .bf16) (w2 : a2.IsWhole) (a3 : Memref sig .tc .vmem S1024x1536 .bf16) (w3 : a3.IsWhole)
  (a4 : Memref sig .tc .vmem S1024x1152 .f32) (w4 : a4.IsWhole) (a5 : Memref sig .tc .vmem S2048x128 .f32) (w5 : a5.IsWhole)
  (a6 : Memref sig .tc .vmem S2048x128 .f32) (w6 : a6.IsWhole) (a7 : Memref sig .tc .vmem S1x64x1024 .f32) (w7 : a7.IsWhole)
  (a8 : Memref sig .tc .vmem S1024x2048 .bf16) (w8 : a8.IsWhole)
  (x0 : Vec F S1024x2048 .f32) (x1 : Vec F S1x2048 .f32) (x2 : Vec F S1536x2048 .bf16)

set_option maxHeartbeats 1000000 in
/-- At a point between, the wide output's buffer ends at the product of the normalised rows. -/
theorem run_middle (h1 : ¬isFirst i) (h2 : isWide i) (h3 : ¬isLast i) (x4 : Vec F S1024x1152 .f32) (x5 x6 : Vec F S2048x128 .f32) (x7 : Vec F S1x64x1024 .f32) (xs : Vec F S1024x2048 .bf16) (E : Set ℕ) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xs
        ∗ (iprop(owns (c : Thread nD τ) a0 fullShare x0 ∗ owns (c : Thread nD τ) a1 fullShare x1 ∗ owns (c : Thread nD τ) a2 fullShare x2 ∗ owns (c : Thread nD τ) a3 fullShare (k0_pay2 xs x2) ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xs) -∗ K ⟨⟩))
      ⊢ wp frame (wpE (defs₀ (F := F)) Variants.none c none) E (cc0_proj i a0 w0 a1 w1 a2 w2 a3 w3 a4 w4 a5 w5 a6 w6 a7 w7 a8 w8) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%f8, %hf8, H8⟩, Hk⟩
  obtain rfl := w0.eq_unread hf0; obtain rfl := w1.eq_unread hf1; obtain rfl := w2.eq_unread hf2
  obtain rfl := w4.eq_unread hf4; obtain rfl := w5.eq_unread hf5; obtain rfl := w6.eq_unread hf6; obtain rfl := w7.eq_unread hf7
  obtain rfl := w8.eq_unread hf8
  sl_exec (disch := first | sl_exact h1 | sl_exact h2 | sl_exact h3)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; swap; · iexact H3
    ipureintro
    frame_out
    exact View.read_writes_full _ _ inb_S1024x1536_S1024x1536_0_0 _ _
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  iexists _; isplitr; · ipureintro; exact w8.read_unread _
  iexact H8

end Cert.Proof.Sample

end
-- ==== Proof.SampleLast.lean ====
/-
  At the sample batch's size, 1024 rows.

  The body at the last point of a row block: the last tile, and its keys, values and indexer columns laid out.
-/
module

public import proofs.«01_k».proof.Proof.SampleLayout
public import Idealize.ShloMosaic.Lib.VecWindow

@[expose] public section

set_option maxRecDepth 16384

noncomputable section

namespace Cert.Proof.Sample

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (a0 : Memref sig .tc .vmem S1024x2048 .f32) (w0 : a0.IsWhole) (a1 : Memref sig .tc .vmem S1x2048 .f32) (w1 : a1.IsWhole)
  (a2 : Memref sig .tc .vmem S1536x2048 .bf16) (w2 : a2.IsWhole) (a3 : Memref sig .tc .vmem S1024x1536 .bf16) (w3 : a3.IsWhole)
  (a4 : Memref sig .tc .vmem S1024x1152 .f32) (w4 : a4.IsWhole) (a5 : Memref sig .tc .vmem S2048x128 .f32) (w5 : a5.IsWhole)
  (a6 : Memref sig .tc .vmem S2048x128 .f32) (w6 : a6.IsWhole) (a7 : Memref sig .tc .vmem S1x64x1024 .f32) (w7 : a7.IsWhole)
  (a8 : Memref sig .tc .vmem S1024x2048 .bf16) (w8 : a8.IsWhole)
  (x0 : Vec F S1024x2048 .f32) (x1 : Vec F S1x2048 .f32) (x2 : Vec F S1536x2048 .bf16)

set_option maxHeartbeats 1000000 in
/-- At a last point the tile's buffer ends at the product of the normalised rows, and the keys', the values' and the indexer's
    buffers at its columns; the wide output's buffer is left as it was. -/
theorem run_last (h1 : ¬isFirst i) (h2 : ¬isWide i) (h3 : isLast i) (x3 : Vec F S1024x1536 .bf16) (xs : Vec F S1024x2048 .bf16) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ owns (c : Thread nD τ) a8 fullShare xs
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (k0_pay6 xs x2) ∗ owns (c : Thread nD τ) a5 fullShare (heads 0 (by decide) (k0_pay6 xs x2)) ∗ owns (c : Thread nD τ) a6 fullShare (heads 256 (by decide) (k0_pay6 xs x2)) ∗ owns (c : Thread nD τ) a7 fullShare (indexer (k0_pay6 xs x2)) ∗ owns (c : Thread nD τ) a8 fullShare xs) -∗ K ⟨⟩))
      ⊢ wp frame (wpE (defs₀ (F := F)) Variants.none c none) E (cc0_proj i a0 w0 a1 w1 a2 w2 a3 w3 a4 w4 a5 w5 a6 w6 a7 w7 a8 w8) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, Hk⟩
  obtain rfl := w0.eq_unread hf0; obtain rfl := w1.eq_unread hf1; obtain rfl := w2.eq_unread hf2
  obtain rfl := w3.eq_unread hf3; obtain rfl := w8.eq_unread hf8
  sl_exec (disch := first | sl_exact h1 | sl_exact h2 | sl_exact h3)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; swap; · iexact H4
    ipureintro
    frame_out
    exact View.read_writes_full _ _ inb_S1024x1152_S1024x1152_0_0 _ _
  isplitl [H5]
  · iexists _; isplitr; swap; · iexact H5
    ipureintro
    refine funext fun y => View.read_writes_apply_of_pieces _ _ (heads 0 (by decide) (k0_pay6 xs x2)) _ ?_ y (heads_cover _ _ y)
    intro p hp x
    simp only [List.mem_cons, List.not_mem_nil, _root_.or_false] at hp
    rcases hp with rfl | rfl
    all_goals
      frame_out
      rw [readCov_tile]
      first
        | unfold k0_pay7
        | unfold k0_pay8
        | unfold k0_pay9
        | unfold k0_pay10
      rw [shapeCast_self]
      first
        | exact heads_at _ _ _ _ _ (show 0 + 1 * (x 0).val = (1 + 2 * (x 0).val) / 2 by omega)
            (show 128 + 1 * (x 1).val = 0 + (1 + 2 * (x 0).val) % 2 * 128 + (0 + 1 * (x 1).val) by omega)
        | exact heads_at _ _ _ _ _ (show 0 + 1 * (x 0).val = (0 + 2 * (x 0).val) / 2 by omega)
            (show 0 + 1 * (x 1).val = 0 + (0 + 2 * (x 0).val) % 2 * 128 + (0 + 1 * (x 1).val) by omega)
  isplitl [H6]
  · iexists _; isplitr; swap; · iexact H6
    ipureintro
    refine funext fun y => View.read_writes_apply_of_pieces _ _ (heads 256 (by decide) (k0_pay6 xs x2)) _ ?_ y (heads_cover _ _ y)
    intro p hp x
    simp only [List.mem_cons, List.not_mem_nil, _root_.or_false] at hp
    rcases hp with rfl | rfl
    all_goals
      frame_out
      rw [readCov_tile]
      first
        | unfold k0_pay7
        | unfold k0_pay8
        | unfold k0_pay9
        | unfold k0_pay10
      rw [shapeCast_self]
      first
        | exact heads_at _ _ _ _ _ (show 0 + 1 * (x 0).val = (1 + 2 * (x 0).val) / 2 by omega)
            (show 384 + 1 * (x 1).val = 256 + (1 + 2 * (x 0).val) % 2 * 128 + (0 + 1 * (x 1).val) by omega)
        | exact heads_at _ _ _ _ _ (show 0 + 1 * (x 0).val = (0 + 2 * (x 0).val) / 2 by omega)
            (show 256 + 1 * (x 1).val = 256 + (0 + 2 * (x 0).val) % 2 * 128 + (0 + 1 * (x 1).val) by omega)
  isplitl [H7]
  · iexists _; isplitr; swap; · iexact H7
    ipureintro
    refine funext fun y => View.read_writes_apply_of_pieces _ _ (indexer (k0_pay6 xs x2)) _ ?_ y (View.cover_of_tiledL _ ![1, 64, 128] (by sl_kernel_rfl) y)
    intro p hp x
    simp only [List.mem_cons, List.not_mem_nil, _root_.or_false] at hp
    rcases hp with rfl | rfl | rfl | rfl | rfl | rfl | rfl | rfl
    all_goals
      frame_out
      rw [readCov_tile]
      obtain ⟨a, r, l, rfl⟩ : ∃ (a : Fin 1) (r : Fin 64) (l : Fin 128), x = ix3 a r l :=
        ⟨x 0, x 1, x 2, by funext q; fin_cases q <;> rfl⟩
      refine (turned _ a r l).trans (indexer_at _ _ _ ?_ ?_)
      · exact rfl
      · show 1024 + 1 * r.val = 1024 + (0 + 1 * r.val)
        omega
  iexists _; isplitr; · ipureintro; exact w8.read_unread _
  iexact H8

end Cert.Proof.Sample

end
-- ==== Proof.SampleFrame.lean ====
/-
  At the sample batch's size, 1024 rows.

  The projection's frame: what its buffers hold after each point, the body's obligation by the runs of the three kinds of
  points, and the run of the whole program.

  The points of a row block are seven. At the first the block's rows are normalised into the scratch buffer, and until the
  last the scratch buffer keeps them. At the last point the wide output's buffer is not written, but is sent back: it still
  holds the tile of the point before.
-/
module

public import proofs.«01_k».proof.Proof.SampleFirst
public import proofs.«01_k».proof.Proof.SampleMiddle
public import proofs.«01_k».proof.Proof.SampleLast
public import Idealize.ShloMosaic.Lib.Quiescent

@[expose] public section

set_option maxRecDepth 16384

noncomputable section

namespace Cert.Proof.Sample

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first point of a point's row block. -/
def first (t : Fin cfg0.N) : Fin cfg0.N := ⟨t.val - t.val % 7, lt_of_le_of_lt (Nat.sub_le _ _) t.isLt⟩

/-- The point before. -/
def prev (t : Fin cfg0.N) : Fin cfg0.N := ⟨t.val - 1, lt_of_le_of_lt (Nat.sub_le _ _) t.isLt⟩

/-- The point whose tile the wide output's buffer holds. -/
def tileOf (t : Fin cfg0.N) : Fin cfg0.N := if t.val % 7 = 6 then prev t else t

theorem first_of_first (t : Fin cfg0.N) (h : t.val % 7 = 0) : first t = t :=
  Fin.ext (show t.val - t.val % 7 = t.val by omega)

theorem first_prev (t : Fin cfg0.N) (h : ¬t.val % 7 = 0) : first (prev t) = first t :=
  Fin.ext (show t.val - 1 - (t.val - 1) % 7 = t.val - t.val % 7 by omega)

/-- The normalised rows of a point's row block. -/
def rows (c : Dev nD) (t : Fin cfg0.N) : Vec F S1024x2048 .bf16 := k0_pay1 (iblk m c 0 (first t)) (iblk m c 1 (first t))

theorem rows_first (c : Dev nD) (t : Fin cfg0.N) (h : t.val % 7 = 0) : rows m c t = k0_pay1 (iblk m c 0 t) (iblk m c 1 t) := by
  unfold rows; rw [first_of_first t h]

theorem rows_prev (c : Dev nD) (t : Fin cfg0.N) (h : ¬t.val % 7 = 0) : rows m c (prev t) = rows m c t := by
  unfold rows; rw [first_prev t h]

/-- The wide output's tile. -/
def wide (c : Dev nD) (t : Fin cfg0.N) : Vec F S1024x1536 .bf16 := k0_pay2 (rows m c t) (iblk m c 2 (tileOf t))

theorem wide_live (c : Dev nD) (t : Fin cfg0.N) (h : ¬t.val % 7 = 6) : wide m c t = k0_pay2 (rows m c t) (iblk m c 2 t) := by
  unfold wide tileOf; rw [if_neg h]

theorem wide_prev (c : Dev nD) (t : Fin cfg0.N) (h : t.val % 7 = 6) : wide m c (prev t) = wide m c t := by
  unfold wide
  rw [rows_prev m c t (by omega), show tileOf (prev t) = tileOf t from by
    exact (if_neg (show ¬(t.val - 1) % 7 = 6 by omega)).trans (if_pos h).symm]

/-- The last tile. -/
def last (c : Dev nD) (t : Fin cfg0.N) : Vec F S1024x1152 .f32 := k0_pay6 (rows m c t) (iblk m c 2 t)

/-! ## The invariant and the data -/

/-- Before the first point the launch's; after a point, the scratch buffer at that point's rows. -/
def inv (c : Dev nD) : (n : ℕ) → n ≤ cfg0.N → sProp 𝕄
  | 0, _ => Pipeline.ΦA spec0 c
  | n + 1, hn => iprop(owns (c : Thread nD τ) scratch fullShare (rows m c ⟨n, hn⟩) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(owns (c : Thread nD τ) scratch fullShare (rows m c ⟨n, hn⟩) ∗ (∃ r, prngReg c r)) := rfl

theorem inv_pos (c : Dev nD) (n : ℕ) (h : n ≤ cfg0.N) (hz : n ≠ 0) :
    inv m c n h = iprop(owns (c : Thread nD τ) scratch fullShare (rows m c ⟨n - 1, by omega⟩) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wide m c t
    | ⟨4, _⟩ => last m c t
    | ⟨5, _⟩ => heads 0 (by decide) (last m c t)
    | ⟨6, _⟩ => heads 256 (by decide) (last m c t)
    | ⟨7, _⟩ => indexer (last m c t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = wide m c t := by dsimp only [dats]
theorem after_4 (c : Dev nD) (t : Fin cfg0.N) : (dats m 0 c).after 4 t = last m c t := by dsimp only [dats]
theorem after_5 (c : Dev nD) (t : Fin cfg0.N) : (dats m 0 c).after 5 t = heads 0 (by decide) (last m c t) := by dsimp only [dats]
theorem after_6 (c : Dev nD) (t : Fin cfg0.N) : (dats m 0 c).after 6 t = heads 256 (by decide) (last m c t) := by dsimp only [dats]
theorem after_7 (c : Dev nD) (t : Fin cfg0.N) : (dats m 0 c).after 7 t = indexer (last m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## Where each output is stored and sent back -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, ¬t.val % 7 = 6 → cfg0.idle 3 (grid0.coords t) = false := by decide +kernel
theorem idle_3 : ∀ t : Fin cfg0.N, t.val % 7 = 6 → cfg0.idle 3 (grid0.coords t) = true := by decide +kernel
theorem sent_3 : ∀ t : Fin cfg0.N, t.val % 7 = 6 → (cfg0.win 3).flush t = true := by decide +kernel
theorem held_3 : ∀ t : Fin cfg0.N, t.val % 7 = 6 → (cfg0.win 3).flush (prev t) = false := by decide +kernel
theorem live_4 : ∀ t : Fin cfg0.N, t.val % 7 = 6 → cfg0.idle 4 (grid0.coords t) = false := by decide +kernel
theorem idle_4 : ∀ t : Fin cfg0.N, ¬t.val % 7 = 6 → cfg0.idle 4 (grid0.coords t) = true := by decide +kernel
theorem held_4 : ∀ t : Fin cfg0.N, ¬t.val % 7 = 6 → (cfg0.win 4).flush t = false := by decide +kernel
theorem live_5 : ∀ t : Fin cfg0.N, t.val % 7 = 6 → cfg0.idle 5 (grid0.coords t) = false := by decide +kernel
theorem idle_5 : ∀ t : Fin cfg0.N, ¬t.val % 7 = 6 → cfg0.idle 5 (grid0.coords t) = true := by decide +kernel
theorem held_5 : ∀ t : Fin cfg0.N, ¬t.val % 7 = 6 → (cfg0.win 5).flush t = false := by decide +kernel
theorem live_6 : ∀ t : Fin cfg0.N, t.val % 7 = 6 → cfg0.idle 6 (grid0.coords t) = false := by decide +kernel
theorem idle_6 : ∀ t : Fin cfg0.N, ¬t.val % 7 = 6 → cfg0.idle 6 (grid0.coords t) = true := by decide +kernel
theorem held_6 : ∀ t : Fin cfg0.N, ¬t.val % 7 = 6 → (cfg0.win 6).flush t = false := by decide +kernel
theorem live_7 : ∀ t : Fin cfg0.N, t.val % 7 = 6 → cfg0.idle 7 (grid0.coords t) = false := by decide +kernel
theorem idle_7 : ∀ t : Fin cfg0.N, ¬t.val % 7 = 6 → cfg0.idle 7 (grid0.coords t) = true := by decide +kernel
theorem held_7 : ∀ t : Fin cfg0.N, ¬t.val % 7 = 6 → (cfg0.win 7).flush t = false := by decide +kernel

/-- At the last point of a row block the wide output's buffer holds what it must send back. -/
theorem before_3 (c : Dev nD) (t : Fin cfg0.N) (h : t.val % 7 = 6) (d) : (dats m 0 c).before 3 t d = wide m c t := by
  rw [(dats m 0 c).before_of_pos 3 t (by omega) ((cfg0.win 3).fetch_out rfl t)]
  rw [show (cfg0.win 3).flush ⟨t.val - 1, Nat.lt_of_le_of_lt (Nat.sub_le _ _) t.isLt⟩ = false from held_3 t h, if_neg Bool.false_ne_true]
  unfold Dat.left
  rw [show cfg0.idle 3 (cfg0.grid.coords ⟨t.val - 1, Nat.lt_of_le_of_lt (Nat.sub_le _ _) t.isLt⟩) = false from
    live_3 (prev t) (show ¬(t.val - 1) % 7 = 6 by omega)]
  refine Eq.trans ?_ (wide_prev m c t h)
  show (dats m 0 c).kept 3 (prev t) d = _
  unfold Dat.kept
  rw [Pipeline.fill_of_clip_none (cfg := cfg0) 3 _ (fun _ => rfl) d ((dats m 0 c).after 3 _), Window.fill_cut]
  exact after_3 m c (prev t)

/-! ## The obligation -/

/-- What the body is called with at a point, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point, by the kind of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = inv m c (t.val + 1) t.isLt from rfl, inv_succ]
  rw [show (dats m 0 c).leavesExact 0 t = owns (c : Thread nD τ) (st0 t) fullShare ((dats m 0 c).after 0 t) from by
    unfold Dat.leavesExact; rw [live_0 t], after_0]
  rw [show (dats m 0 c).leavesExact 1 t = owns (c : Thread nD τ) (st1 t) fullShare ((dats m 0 c).after 1 t) from by
    unfold Dat.leavesExact; rw [live_1 t], after_1]
  rw [show (dats m 0 c).leavesExact 2 t = owns (c : Thread nD τ) (st2 t) fullShare ((dats m 0 c).after 2 t) from by
    unfold Dat.leavesExact; rw [live_2 t], after_2]
  by_cases h6 : t.val % 7 = 6
  · have h0 : ¬t.val % 7 = 0 := by omega
    rw [show (dats m 0 c).leavesExact 3 t = owns (c : Thread nD τ) (st3 t) fullShare ((dats m 0 c).after 3 t) from by
      unfold Dat.leavesExact; rw [idle_3 t h6, sent_3 t h6], after_3]
    rw [show (dats m 0 c).leavesExact 4 t = owns (c : Thread nD τ) (st4 t) fullShare ((dats m 0 c).after 4 t) from by
      unfold Dat.leavesExact; rw [live_4 t h6], after_4]
    rw [show (dats m 0 c).leavesExact 5 t = owns (c : Thread nD τ) (st5 t) fullShare ((dats m 0 c).after 5 t) from by
      unfold Dat.leavesExact; rw [live_5 t h6], after_5]
    rw [show (dats m 0 c).leavesExact 6 t = owns (c : Thread nD τ) (st6 t) fullShare ((dats m 0 c).after 6 t) from by
      unfold Dat.leavesExact; rw [live_6 t h6], after_6]
    rw [show (dats m 0 c).leavesExact 7 t = owns (c : Thread nD τ) (st7 t) fullShare ((dats m 0 c).after 7 t) from by
      unfold Dat.leavesExact; rw [live_7 t h6], after_7]
    simp only [before_3 m c t h6]
    rw [inv_castSucc m c t, inv_pos m c _ _ (by omega), show rows m c ⟨t.val - 1, _⟩ = rows m c t from rows_prev m c t h0]
    unfold last
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_last c (grid0.coords t) (st0 t) (wh0 t) (st1 t) (wh1 t) (st2 t) (wh2 t) (st3 t) (wh3 t) (st4 t) (wh4 t) (st5 t) (wh5 t) (st6 t) (wh6 t) (st7 t) (wh7 t)
      scratch (Memref.isWhole_whole _) (iblk m c 0 t) (iblk m c 1 t) (iblk m c 2 t)
      (fun h => h0 ((isFirst_iff t).mp h)) (fun h => by have := (isWide_iff t).mp h; omega) ((isLast_iff t).mpr h6) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 3 t = owns (c : Thread nD τ) (st3 t) fullShare ((dats m 0 c).after 3 t) from by
      unfold Dat.leavesExact; rw [live_3 t h6], after_3]
    rw [Dat.leavesExact_idle (dats m 0 c) 4 t (idle_4 t h6) (held_4 t h6)]
    rw [Dat.leavesExact_idle (dats m 0 c) 5 t (idle_5 t h6) (held_5 t h6)]
    rw [Dat.leavesExact_idle (dats m 0 c) 6 t (idle_6 t h6) (held_6 t h6)]
    rw [Dat.leavesExact_idle (dats m 0 c) 7 t (idle_7 t h6) (held_7 t h6)]
    by_cases h0 : t.val % 7 = 0
    · rw [wide_live m c t h6, rows_first m c t h0, inv_castSucc m c t]
      by_cases hz : t.val = 0
      · rw [inv_zero m c _ _ hz, launch_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run_first c (grid0.coords t) (st0 t) (wh0 t) (st1 t) (wh1 t) (st2 t) (wh2 t) (st3 t) (wh3 t) (st4 t) (wh4 t) (st5 t) (wh5 t) (st6 t) (wh6 t) (st7 t) (wh7 t)
          scratch (Memref.isWhole_whole _) (iblk m c 0 t) (iblk m c 1 t) (iblk m c 2 t)
          ((isFirst_iff t).mpr h0) ((isWide_iff t).mpr (by omega)) (fun h => h6 ((isLast_iff t).mp h)) _ _ _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        iexists _; iexact H7
      · rw [inv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run_first c (grid0.coords t) (st0 t) (wh0 t) (st1 t) (wh1 t) (st2 t) (wh2 t) (st3 t) (wh3 t) (st4 t) (wh4 t) (st5 t) (wh5 t) (st6 t) (wh6 t) (st7 t) (wh7 t)
          scratch (Memref.isWhole_whole _) (iblk m c 0 t) (iblk m c 1 t) (iblk m c 2 t)
          ((isFirst_iff t).mpr h0) ((isWide_iff t).mpr (by omega)) (fun h => h6 ((isLast_iff t).mp h)) _ _ _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        iexists _; iexact H7
    · rw [wide_live m c t h6, inv_castSucc m c t, inv_pos m c _ _ (by omega), show rows m c ⟨t.val - 1, _⟩ = rows m c t from rows_prev m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_middle c (grid0.coords t) (st0 t) (wh0 t) (st1 t) (wh1 t) (st2 t) (wh2 t) (st3 t) (wh3 t) (st4 t) (wh4 t) (st5 t) (wh5 t) (st6 t) (wh6 t) (st7 t) (wh7 t)
        scratch (Memref.isWhole_whole _) (iblk m c 0 t) (iblk m c 1 t) (iblk m c 2 t)
        (fun h => h0 ((isFirst_iff t).mp h)) ((isWide_iff t).mpr (by omega)) (fun h => h6 ((isLast_iff t).mp h)) _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iexists _; iexact H7

theorem defs₀_row (t : Fin cfg0.N) :
    defs₀ (F := F) .tc cfg0.body (cfg0.bodyArgs t (cfg0.slots t)) = bodyAt0 t := by
  unfold defs₀; rw [Defs.onTc_tc]

/-- The pipeline's obligation on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the launch's back. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 7 := N_0; omega), launch_eq]
  iintro ⟨HS, Hg⟩
  isplitl [HS]
  · iexists _; iexact HS
  iexact Hg

/-! ## The run and the frame -/

set_option backward.isDefEq.respectTransparency.types false in
/-- Every run ends, with the arrays as the pipeline's data compute them and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_arrays : θ_run defs (onTc (τ := τ) (main (F := F))) (s₀ m ρ) (Pipeline.FramePost cfgs (dats m) 0 (V m)) :=
  (θ_run defs _ _).mono (fun _ h => h.1) (run_quiet m ρ)

/-- The arguments end as they were, and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run_quiet m ρ))

end Cert.Proof.Sample

end
-- ==== Proof.SampleSpec.lean ====
/-
  At the sample batch's size, 1024 rows.

  The projection, one entry at a time, over the extended reals: a root-mean-square normalised row of the input times a row
  of the weights. Kernel and reference both compute this; here it is read off the kernel's payloads and off the reference.
-/
module

public import proofs.«01_k».proof.Proof.TailSpec
public import proofs.«01_k».proof.Proof.Gen.Kernel3Ideal.Skeleton
public import proofs.«01_k».proof.Proof.Gen.Reference3Ideal.Read
public import Idealize.ShloMosaic.Lib.Pointwise

@[expose] public section

noncomputable section

namespace Cert.Proof.Sample

open Idealize.ShloMosaic

/-- A normalised row, with gain `g`, times a row of weights. -/
def entry (x g w : Fin 2048 → EReal) : EReal := ∑ k : Fin 2048, Tail.rmsNorm x g k * w k

section Kernel

open Cert.Kernel3Ideal Cert.Kernel3Ideal.Gen

theorem pay1_apply (x : Vec Ideal S1024x2048 .f32) (g : Vec Ideal S1x2048 .f32) (r : Fin 1024) (k : Fin 2048) :
    k0_pay1 (F := Ideal) x g (ix2 r k) = Tail.rmsNorm (fun l => x (ix2 r l)) (fun l => g (ix2 0 l)) k := by
  pointwise [k0_pay1, Tail.rmsNorm, Tail.mean, Tail.eps]

theorem pay2_apply (x : Vec Ideal S1024x2048 .bf16) (w : Vec Ideal S1536x2048 .bf16) (r : Fin 1024) (j : Fin 1536) :
    k0_pay2 (F := Ideal) x w (ix2 r j) = ∑ k : Fin 2048, x (ix2 r k) * w (ix2 j k) := by
  pointwise [k0_pay2]

theorem pay6_apply (x : Vec Ideal S1024x2048 .bf16) (w : Vec Ideal S1536x2048 .bf16) (r : Fin 1024) (j : Fin 1152) :
    k0_pay6 (F := Ideal) x w (ix2 r j) = ∑ k : Fin 2048, x (ix2 r k) * w (ix2 (⟨j.val, by omega⟩ : Fin 1536) k) := by
  pointwise [k0_pay6]

end Kernel

section Reference

open Cert.Reference3Ideal Cert.Reference3Ideal.Gen Cert.Reference3Ideal.Read

variable (x : Vec Ideal S1024x2048 .f32) (g : Vec Ideal S2048 .f32) (w : Vec Ideal S10752x2048 .bf16)

/-- The projection's entry at row `i`, column `j`. -/
def proj (i : Fin 1024) (j : Fin 10752) : EReal :=
  entry (fun k => x (ix2 i k)) (fun k => g (ix1 k)) (fun k => w (ix2 j k))

theorem ref_v15 (i : Fin 1024) (j : Fin 10752) : val_main_v15 (F := Ideal) x g w (ix2 i j) = proj x g w i j := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, proj, entry, Tail.rmsNorm, Tail.mean, Tail.eps]

/-- The same at an index whose coordinates are known. -/
theorem ref_at (z : S1024x10752.Idx) (i : Fin 1024) (j : Fin 10752) (h0 : (z 0).val = i.val) (h1 : (z 1).val = j.val) :
    val_main_v15 (F := Ideal) x g w z = proj x g w i j := by
  rw [← ref_v15]
  exact congrArg _ (funext fun a => by
    fin_cases a
    · exact Fin.ext h0
    · exact Fin.ext h1)

theorem ref_v17 (i : Fin 1024) (j : Fin 9216) :
    val_main_v17 (F := Ideal) x g w (ix2 i j) = proj x g w i ⟨j.val, by omega⟩ := by
  rw [val_main_v17_apply, val_main_v16_apply]
  exact ref_at x g w _ _ _ (by simp [idx_main_v16]) (by simp [idx_main_v16])

theorem ref_v18 (i : Fin 1024) (j : Fin 1152) :
    val_main_v18 (F := Ideal) x g w (ix2 i j) = proj x g w i ⟨9216 + j.val, by omega⟩ := by
  rw [val_main_v18_apply]
  exact ref_at x g w _ _ _ (by simp [idx_main_v18]) (by simp [idx_main_v18])

theorem ref_v20 (i : Fin 2048) (d : Fin 128) :
    val_main_v20 (F := Ideal) x g w (ix2 i d)
      = proj x g w ⟨i.val / 2, by omega⟩ ⟨9216 + (i.val % 2 * 128 + d.val), by omega⟩ := by
  rw [val_main_v20_apply, val_main_v19_apply]
  exact ref_at x g w _ _ _ (by simp [idx_main_v19, idx_main_v20]; omega) (by simp [idx_main_v19, idx_main_v20]; omega)

theorem ref_v22 (i : Fin 2048) (d : Fin 128) :
    val_main_v22 (F := Ideal) x g w (ix2 i d)
      = proj x g w ⟨i.val / 2, by omega⟩ ⟨9472 + (i.val % 2 * 128 + d.val), by omega⟩ := by
  rw [val_main_v22_apply, val_main_v21_apply]
  exact ref_at x g w _ _ _ (by simp [idx_main_v21, idx_main_v22]; omega) (by simp [idx_main_v21, idx_main_v22]; omega)

theorem ref_v25 (b : Fin 1) (d : Fin 64) (s : Fin 1024) :
    val_main_v25 (F := Ideal) x g w (ix3 b d s)
      = proj x g w ⟨b.val * 1024 + s.val, by omega⟩ ⟨10240 + d.val, by omega⟩ := by
  rw [val_main_v25_apply, val_main_v24_apply, val_main_v23_apply]
  exact ref_at x g w _ _ _ (by simp [idx_main_v23, idx_main_v24, idx_main_v25]; omega)
    (by simp [idx_main_v23, idx_main_v24, idx_main_v25])

end Reference

end Cert.Proof.Sample

end
-- ==== Proof.SampleValue.lean ====
/-
  At the sample batch's size, 1024 rows.

  The projection's result arrays: after the run they are the reference's, as functions of the arguments. A row block is 1024
  rows and seven points; the wide output's tiles are sent back one by one, the others' once per row block.
-/
module

public import proofs.«01_k».proof.Proof.SampleFrame
public import proofs.«01_k».proof.Proof.SampleSpec
public import Idealize.ShloMosaic.Lib.Pipeline.ValueKit
public import Idealize.ShloMosaic.Lib.Claim

@[expose] public section

set_option maxRecDepth 16384

noncomputable section

namespace Cert.Proof.Sample

open Idealize.ShloMosaic Idealize.ShloMosaic.TcCoe Idealize.SL.Sem
open Cert.Kernel3Ideal Cert.Kernel3Ideal.Gen

variable (m : (ℓ : Loc nD τ sig) → Buf (Elt Ideal) ℓ)

/-- The blocks a point reads. -/
theorem idx_in : ∀ t : Fin cfg0.N, win0_0.index (first t) = ![t.val / 7, 0] ∧ win0_1.index (first t) = ![0, 0]
    ∧ win0_2.index t = ![t.val % 7, 0] ∧ win0_2.index (tileOf t) = ![min (t.val % 7) 5, 0] ∧ t.val / 7 < 1 :=
  (by decide +kernel : ∀ t : Fin grid0.N, _)

/-- The blocks a point sends back to. -/
theorem idx_out : ∀ t : Fin cfg0.N, win0_3.index t = ![t.val / 7, min (t.val % 7) 5] ∧ win0_4.index t = ![t.val / 7, 0]
    ∧ win0_5.index t = ![t.val / 7, 0] ∧ win0_6.index t = ![t.val / 7, 0] ∧ win0_7.index t = ![t.val / 14, 0, t.val / 7 % 2] :=
  (by decide +kernel : ∀ t : Fin grid0.N, _)

/-- The projection of the kernel's arguments. -/
abbrev value (c : Dev nD) (i : Fin 1024) (j : Fin 10752) : EReal :=
  proj (m ((c : Thread nD τ).loc main_arg0)) (m ((c : Thread nD τ).loc main_arg1)) (m ((c : Thread nD τ).loc main_arg2)) i j

/-- The normalised rows a point works with. -/
theorem rows_apply (c : Dev nD) (t : Fin cfg0.N) (r : Fin 1024) (k : Fin 2048) (i : Fin 1024) (hi : i.val = t.val / 7 * 1024 + r.val) :
    rows m c t (ix2 r k) = Tail.rmsNorm (fun l => (m ((c : Thread nD τ).loc main_arg0) : Vec Ideal S1024x2048 .f32) (ix2 i l))
      (fun l => (m ((c : Thread nD τ).loc main_arg1) : Vec Ideal S2048 .f32) (ix1 l)) k := by
  unfold rows
  rw [pay1_apply]
  congr 1
  · funext l; blk_ext [iblk, V, idx_in t]
  · funext l; blk_ext! [iblk, V, idx_in t]

/-- The wide output's tile at a point. -/
theorem wide_apply (c : Dev nD) (t : Fin cfg0.N) (r : Fin 1024) (j : Fin 1536) (i : Fin 1024) (q : Fin 10752)
    (hi : i.val = t.val / 7 * 1024 + r.val) (hq : q.val = min (t.val % 7) 5 * 1536 + j.val) :
    wide m c t (ix2 r j) = value m c i q := by
  unfold wide
  rw [pay2_apply]
  unfold value proj entry
  refine Finset.sum_congr rfl fun k _ => ?_
  rw [rows_apply m c t r k i hi]
  congr 1
  blk_ext [iblk, V, idx_in t]

/-- The last tile, at a last point. -/
theorem last_apply (c : Dev nD) (t : Fin cfg0.N) (h : t.val % 7 = 6) (r : Fin 1024) (j : Fin 1152) (i : Fin 1024) (q : Fin 10752)
    (hi : i.val = t.val / 7 * 1024 + r.val) (hq : q.val = 9216 + j.val) :
    last m c t (ix2 r j) = value m c i q := by
  unfold last
  rw [pay6_apply]
  unfold value proj entry
  refine Finset.sum_congr rfl fun k _ => ?_
  rw [rows_apply m c t r k i hi]
  congr 1
  blk_ext [iblk, V, idx_in t]

/-! ## The result arrays -/

/-- The wide projection. -/
theorem final_3 (c : Dev nD) : (dats m 0 c).arrAt 3 (cfgs 0).N = Cert.Reference3Ideal.Read.val_main_v17 (F := Ideal)
    (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after_3]
  obtain ⟨r, j, rfl⟩ : ∃ (r : Fin 1024) (j : Fin 1536), y = ix2 r j := ⟨y 0, y 1, by funext a; fin_cases a <;> rfl⟩
  have ht := (idx_in t).2.2.2.2
  have hr : t.val / 7 * 1024 + r.val < 1024 := by omega
  have hj : min (t.val % 7) 5 * 1536 + j.val < 9216 := by omega
  refine (wide_apply m c t r j ⟨_, hr⟩ ⟨_, by omega⟩ rfl rfl).trans ?_
  refine (ref_v17 _ _ _ (⟨_, hr⟩ : Fin 1024) (⟨_, hj⟩ : Fin 9216)).symm.trans (congrArg _ ?_)
  blk_ext [idx_out t]

/-- The last tile whole. -/
theorem final_4 (c : Dev nD) : (dats m 0 c).arrAt 4 (cfgs 0).N = Cert.Reference3Ideal.Read.val_main_v18 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  have h6 : t.val % 7 = 6 := (flush0_4 t).mp hf
  blk_simp
  rw [after_4]
  obtain ⟨r, j, rfl⟩ : ∃ (r : Fin 1024) (j : Fin 1152), y = ix2 r j := ⟨y 0, y 1, by funext a; fin_cases a <;> rfl⟩
  have ht := (idx_in t).2.2.2.2
  have hr : t.val / 7 * 1024 + r.val < 1024 := by omega
  refine (last_apply m c t h6 r j ⟨_, hr⟩ ⟨9216 + j.val, by omega⟩ rfl rfl).trans ?_
  refine (ref_v18 _ _ _ (⟨_, hr⟩ : Fin 1024) j).symm.trans (congrArg _ ?_)
  blk_ext [idx_out t]

/-- The keys, two heads a row. -/
theorem final_5 (c : Dev nD) : (dats m 0 c).arrAt 5 (cfgs 0).N = Cert.Reference3Ideal.Read.val_main_v20 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  have h6 : t.val % 7 = 6 := (flush0_5 t).mp hf
  blk_simp
  rw [after_5]
  obtain ⟨r, d, rfl⟩ : ∃ (r : Fin 2048) (d : Fin 128), y = ix2 r d := ⟨y 0, y 1, by funext a; fin_cases a <;> rfl⟩
  have ht := (idx_in t).2.2.2.2
  have hr : t.val / 7 * 2048 + r.val < 2048 := by omega
  refine (last_apply m c t h6 (⟨r.val / 2, by omega⟩ : Fin 1024) (⟨0 + r.val % 2 * 128 + d.val, by omega⟩ : Fin 1152)
    ⟨(t.val / 7 * 2048 + r.val) / 2, by omega⟩ ⟨9216 + ((t.val / 7 * 2048 + r.val) % 2 * 128 + d.val), by omega⟩
    (by show (t.val / 7 * 2048 + r.val) / 2 = t.val / 7 * 1024 + r.val / 2; omega)
    (by show 9216 + ((t.val / 7 * 2048 + r.val) % 2 * 128 + d.val) = 9216 + (0 + r.val % 2 * 128 + d.val); omega)).trans ?_
  refine (ref_v20 _ _ _ (⟨_, hr⟩ : Fin 2048) d).symm.trans (congrArg _ ?_)
  blk_ext [idx_out t]

/-- The values, two heads a row. -/
theorem final_6 (c : Dev nD) : (dats m 0 c).arrAt 6 (cfgs 0).N = Cert.Reference3Ideal.Read.val_main_v22 (F := Ideal)
    (m ((c : Thread nD τ).loc main_arg0)) (m ((c : Thread nD τ).loc main_arg1)) (m ((c : Thread nD τ).loc main_arg2)) := by
  refine (dats m 0 c).arrAt_eq_of_covers 6 _ (by decide +kernel) fun t hf y => ?_
  have h6 : t.val % 7 = 6 := (flush0_6 t).mp hf
  blk_simp
  rw [after_6]
  obtain ⟨r, d, rfl⟩ : ∃ (r : Fin 2048) (d : Fin 128), y = ix2 r d := ⟨y 0, y 1, by funext a; fin_cases a <;> rfl⟩
  have ht := (idx_in t).2.2.2.2
  have hr : t.val / 7 * 2048 + r.val < 2048 := by omega
  refine (last_apply m c t h6 (⟨r.val / 2, by omega⟩ : Fin 1024) (⟨256 + r.val % 2 * 128 + d.val, by omega⟩ : Fin 1152)
    ⟨(t.val / 7 * 2048 + r.val) / 2, by omega⟩ ⟨9472 + ((t.val / 7 * 2048 + r.val) % 2 * 128 + d.val), by omega⟩
    (by show (t.val / 7 * 2048 + r.val) / 2 = t.val / 7 * 1024 + r.val / 2; omega)
    (by show 9472 + ((t.val / 7 * 2048 + r.val) % 2 * 128 + d.val) = 9216 + (256 + r.val % 2 * 128 + d.val); omega)).trans ?_
  refine (ref_v22 _ _ _ (⟨_, hr⟩ : Fin 2048) d).symm.trans (congrArg _ ?_)
  blk_ext [idx_out t]

/-- The indexer's keys, transposed. -/
theorem final_7 (c : Dev nD) : (dats m 0 c).arrAt 7 (cfgs 0).N = Cert.Reference3Ideal.Read.val_main_v25 (F := Ideal)
    (m ((c : Thread nD τ).loc main_arg0)) (m ((c : Thread nD τ).loc main_arg1)) (m ((c : Thread nD τ).loc main_arg2)) := by
  refine (dats m 0 c).arrAt_eq_of_covers 7 _ (by decide +kernel) fun t hf y => ?_
  have h6 : t.val % 7 = 6 := (flush0_7 t).mp hf
  blk_simp
  rw [after_7]
  obtain ⟨b, d, s, rfl⟩ : ∃ (b : Fin 1) (d : Fin 64) (s : Fin 1024), y = ix3 b d s :=
    ⟨y 0, y 1, y 2, by funext a; fin_cases a <;> rfl⟩
  have ht := (idx_in t).2.2.2.2
  have hb : t.val / 14 < 1 := by omega
  have hs : t.val / 7 % 2 * 1024 + s.val < 1024 := by omega
  refine (last_apply m c t h6 s (⟨1024 + d.val, by omega⟩ : Fin 1152)
    ⟨t.val / 14 * 1024 + (t.val / 7 % 2 * 1024 + s.val), by omega⟩ ⟨10240 + d.val, by omega⟩
    (by show t.val / 14 * 1024 + (t.val / 7 % 2 * 1024 + s.val) = t.val / 7 * 1024 + s.val; omega)
    (by show 10240 + d.val = 9216 + (1024 + d.val); omega)).trans ?_
  refine (ref_v25 _ _ _ (⟨_, hb⟩ : Fin 1) d (⟨_, hs⟩ : Fin 1024)).symm.trans (congrArg _ ?_)
  blk_ext [idx_out t]

end Cert.Proof.Sample

end
-- ==== Proof.SampleClaims.lean ====
/-
  At the sample batch's size, 1024 rows.

  The claims about the projection: its frames, and its equality with the reference over the extended reals.
-/
module

public import proofs.«01_k».proof.Defs
public import proofs.«01_k».proof.Proof.SampleBitsFrame
public import proofs.«01_k».proof.Proof.SampleValue
public import proofs.«01_k».proof.Proof.Gen.Reference3Ideal.Run
public import proofs.«01_k».proof.Proof.Gen.Reference3Ideal.Read
public import Idealize.ShloMosaic.Lib.Quiescent

@[expose] public section

noncomputable section

namespace Cert.Proof.Sample

open Idealize.ShloMosaic Idealize.ShloMosaic.TcCoe Idealize.SL.Sem

/-- The kernel leaves its arguments unchanged. -/
theorem frame_kernel : Cert.quiescent_Kernel3 := fun m ρ _ => SampleBits.frame_main m ρ

/-- So does its idealization. -/
theorem frame_kernelIdeal : Cert.quiescent_Kernel3Ideal := fun m ρ _ => frame_main m ρ

/-- So does the reference. -/
theorem frame_reference : Cert.quiescent_Reference3Ideal := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

section Kernel

open Cert.Kernel3Ideal Cert.Kernel3Ideal.Gen

/-- The kernel's run, its results read off. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v1_0) = (dats m 0 c).arrAt 3 (cfgs 0).N
      ∧ r.2.mem ((c.tc : Thread nD τ).loc main_v1_1) = (dats m 0 c).arrAt 4 (cfgs 0).N
      ∧ r.2.mem ((c.tc : Thread nD τ).loc main_v1_2) = (dats m 0 c).arrAt 5 (cfgs 0).N
      ∧ r.2.mem ((c.tc : Thread nD τ).loc main_v1_3) = (dats m 0 c).arrAt 6 (cfgs 0).N
      ∧ r.2.mem ((c.tc : Thread nD τ).loc main_v1_4) = (dats m 0 c).arrAt 7 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨⟨(h.1 c).1 3, (h.1 c).1 4, (h.1 c).1 5, (h.1 c).1 6, (h.1 c).1 7⟩, h.2 c⟩)
    (θ_run_and (run_arrays m ρ) (frame_of m ρ (dats m) (A_eq m) (run_arrays m ρ)))

end Kernel

/-- Kernel and reference end with the same five results. -/
theorem algebraic : Cert.algebraic_Kernel3Ideal_Reference3Ideal := by
  intro m g m' g' _ hagree
  refine ⟨fun c => (dats m 0 c).arrAt 3 (Cert.Kernel3Ideal.cfgs 0).N, fun c => (dats m 0 c).arrAt 4 (Cert.Kernel3Ideal.cfgs 0).N, fun c => (dats m 0 c).arrAt 5 (Cert.Kernel3Ideal.cfgs 0).N,
    fun c => (dats m 0 c).arrAt 6 (Cert.Kernel3Ideal.cfgs 0).N, fun c => (dats m 0 c).arrAt 7 (Cert.Kernel3Ideal.cfgs 0).N, ?_, ?_⟩
  · exact (θ_run Cert.Kernel3Ideal.defs _ _).mono
      (fun _ h c => ⟨(h c).1.1, (h c).1.2.1, (h c).1.2.2.1, (h c).1.2.2.2.1, (h c).1.2.2.2.2, (h c).2⟩) (run_results m g)
  · refine (θ_run Cert.Reference3Ideal.defs _ _).mono (fun _ h c => ?_) (Cert.Reference3Ideal.Value.run (F := Ideal) m' g')
    obtain ⟨e0, e1, e2, e3, e4, ea⟩ := h c
    obtain ⟨h0, h1, h2⟩ := hagree c
    refine ⟨e0.trans ?_, e1.trans ?_, e2.trans ?_, e3.trans ?_, e4.trans ?_, ea⟩
    · refine (Cert.Reference3Ideal.Read.val_main_v17_eq _ _ _).trans ((?_ : _ = _).trans (final_3 m c).symm)
      rw [h0, h1, h2]
    · refine (Cert.Reference3Ideal.Read.val_main_v18_eq _ _ _).trans ((?_ : _ = _).trans (final_4 m c).symm)
      rw [h0, h1, h2]
    · refine (Cert.Reference3Ideal.Read.val_main_v20_eq _ _ _).trans ((?_ : _ = _).trans (final_5 m c).symm)
      rw [h0, h1, h2]
    · refine (Cert.Reference3Ideal.Read.val_main_v22_eq _ _ _).trans ((?_ : _ = _).trans (final_6 m c).symm)
      rw [h0, h1, h2]
    · refine (Cert.Reference3Ideal.Read.val_main_v25_eq _ _ _).trans ((?_ : _ = _).trans (final_7 m c).symm)
      rw [h0, h1, h2]

end Cert.Proof.Sample

end
-- ==== Proof.TailKernel.lean ====
/-
  The tail kernel's stored block, element by element: row `r` of the block is `Tail.row` of row `r` of its input
  blocks.
-/
module

public import proofs.«01_k».proof.Proof.TailSpec
public import proofs.«01_k».proof.Proof.Gen.Kernel2Ideal.Skeleton

@[expose] public section

noncomputable section

namespace Cert.Proof.Tail

open Idealize.ShloMosaic Cert.Kernel2Ideal Cert.Kernel2Ideal.Gen

/-- The attention branch of the block. -/
theorem pay2_apply (v0 : Vec Ideal S256x1024 .f32) (v1 : Vec Ideal S256x1024 .bf16) (v7 : Vec Ideal S1024x2048 .bf16)
    (r : Fin 256) (j : Fin 2048) :
    k0_pay2 (F := Ideal) v0 v1 v7 (ix2 r j)
      = branchAttn (fun k => v0 (ix2 r k)) (fun k => v1 (ix2 r k)) (fun k l => v7 (ix2 k l)) j := by
  pointwise [k0_pay2, branchAttn, silu]

/-- The normalised and activated convolution rows of the block. -/
theorem pay3_apply (v10 : Vec Ideal S256x1024 .f32) (v29 v33 : Vec Ideal S1x1024 .f32) (r : Fin 256) (k : Fin 1024) :
    k0_pay3 (F := Ideal) v10 v29 v33 (ix2 r k)
      = silu (layerNorm (fun l => v10 (ix2 r l)) (fun l => v29 (ix2 0 l)) (fun l => v33 (ix2 0 l)) k) := by
  pointwise [k0_pay3, silu, layerNorm, mean, eps]

/-- The residual rows of the block. -/
theorem pay4_apply (v9 : FVec Ideal S256x2048 .f32) (v39 : FVec Ideal S256x1024 .bf16) (v40 : Vec Ideal S1024x1024 .bf16)
    (v43 : Vec Ideal S1x1024 .f32) (v47 : Vec Ideal S256x1024 .bf16) (v53 : Vec Ideal S1024x2048 .bf16)
    (v56 v60 : Vec Ideal S256x2048 .bf16) (v65 : Vec Ideal S256x2048 .f32) (v67 : Vec Ideal S2048x2048 .bf16)
    (r : Fin 256) (j : Fin 2048) :
    k0_pay4 (F := Ideal) v9 v39 v40 v43 v47 v53 v56 v60 v65 v67 (ix2 r j)
      = residual (fun k => v56 (ix2 r k)) (fun k => v60 (ix2 r k)) (fun k => v65 (ix2 r k)) (fun k => v9 (ix2 r k))
          (branchConv (fun k => v39 (ix2 r k)) (fun k => v47 (ix2 r k)) (fun k => v43 (ix2 0 k))
            (fun k l => v40 (ix2 k l)) (fun k l => v53 (ix2 k l)))
          (fun k l => v67 (ix2 k l)) j := by
  pointwise [k0_pay4, residual, branchConv, silu]

/-- The scale of each row of the block. -/
theorem pay5_apply (v9 : FVec Ideal S256x2048 .f32) (v39 : FVec Ideal S256x1024 .bf16) (v40 : Vec Ideal S1024x1024 .bf16)
    (v43 : Vec Ideal S1x1024 .f32) (v47 : Vec Ideal S256x1024 .bf16) (v53 : Vec Ideal S1024x2048 .bf16)
    (v56 v60 : Vec Ideal S256x2048 .bf16) (v65 : Vec Ideal S256x2048 .f32) (v67 : Vec Ideal S2048x2048 .bf16)
    (r : Fin 256) (z : Fin 1) :
    k0_pay5 (F := Ideal) v9 v39 v40 v43 v47 v53 v56 v60 v65 v67 (ix2 r z)
      = Ideal.rsqrt (mean 0x45000000#32 (fun l : Fin 2048 =>
          k0_pay4 (F := Ideal) v9 v39 v40 v43 v47 v53 v56 v60 v65 v67 (ix2 r l)
            * k0_pay4 (F := Ideal) v9 v39 v40 v43 v47 v53 v56 v60 v65 v67 (ix2 r l)) + eps) := by
  pointwise [k0_pay5, mean, eps]

/-- The stored block from the residual rows and their scales. -/
theorem pay1_apply (v70 : FVec Ideal S256x2048 .f32) (v78 : FVec Ideal S256x1 .f32) (v81 : Vec Ideal S1x2048 .f32)
    (r : Fin 256) (j : Fin 2048) :
    k0_pay1 (F := Ideal) v70 v78 v81 (ix2 r j) = v70 (ix2 r j) * v78 (ix2 r 0) * v81 (ix2 0 j) := by
  pointwise [k0_pay1]

/-- The block the kernel stores, as a function of its fifteen input blocks. -/
def block (x0 : Vec Ideal S256x1024 .f32) (x1 : Vec Ideal S256x1024 .bf16) (x2 : Vec Ideal S256x1024 .f32)
    (x3 : Vec Ideal S256x1024 .bf16) (x4 x5 : Vec Ideal S256x2048 .bf16) (x6 : Vec Ideal S256x2048 .f32)
    (x7 : Vec Ideal S1024x2048 .bf16) (x8 : Vec Ideal S1024x1024 .bf16) (x9 : Vec Ideal S1024x2048 .bf16)
    (x10 : Vec Ideal S2048x2048 .bf16) (x11 x12 x13 : Vec Ideal S1x1024 .f32) (x14 : Vec Ideal S1x2048 .f32) :
    Vec Ideal S256x2048 .f32 :=
  k0_pay1 (F := Ideal)
    (k0_pay4 (k0_pay2 x0 x1 x7) (k0_pay3 x2 x11 x12) x8 x13 x3 x9 x4 x5 x6 x10)
    (k0_pay5 (k0_pay2 x0 x1 x7) (k0_pay3 x2 x11 x12) x8 x13 x3 x9 x4 x5 x6 x10) x14

/-- Row `r` of the stored block is the tail of row `r` of the input blocks. -/
theorem block_apply (x0 : Vec Ideal S256x1024 .f32) (x1 : Vec Ideal S256x1024 .bf16) (x2 : Vec Ideal S256x1024 .f32)
    (x3 : Vec Ideal S256x1024 .bf16) (x4 x5 : Vec Ideal S256x2048 .bf16) (x6 : Vec Ideal S256x2048 .f32)
    (x7 : Vec Ideal S1024x2048 .bf16) (x8 : Vec Ideal S1024x1024 .bf16) (x9 : Vec Ideal S1024x2048 .bf16)
    (x10 : Vec Ideal S2048x2048 .bf16) (x11 x12 x13 : Vec Ideal S1x1024 .f32) (x14 : Vec Ideal S1x2048 .f32)
    (r : Fin 256) (j : Fin 2048) :
    block x0 x1 x2 x3 x4 x5 x6 x7 x8 x9 x10 x11 x12 x13 x14 (ix2 r j)
      = row (fun k => x0 (ix2 r k)) (fun k => x1 (ix2 r k)) (fun k => x2 (ix2 r k)) (fun k => x3 (ix2 r k))
          (fun k => x4 (ix2 r k)) (fun k => x5 (ix2 r k)) (fun k => x6 (ix2 r k)) (fun k l => x7 (ix2 k l))
          (fun k l => x8 (ix2 k l)) (fun k l => x9 (ix2 k l)) (fun k l => x10 (ix2 k l)) (fun k => x11 (ix2 0 k))
          (fun k => x12 (ix2 0 k)) (fun k => x13 (ix2 0 k)) (fun k => x14 (ix2 0 k)) j := by
  unfold block row rmsNorm
  rw [pay1_apply, pay5_apply]
  simp only [pay4_apply, pay3_apply, pay2_apply]

end Cert.Proof.Tail

end
-- ==== Proof.TailReference.lean ====
/-
  The reference's tail, element by element: its result at row `i` is `Tail.row` of row `i` of its arguments.
-/
module

public import proofs.«01_k».proof.Proof.TailSpec
public import proofs.«01_k».proof.Proof.Gen.Reference2Ideal.Read

@[expose] public section

noncomputable section

namespace Cert.Proof.Tail

open Idealize.ShloMosaic Cert.Reference2Ideal Cert.Reference2Ideal.Read

variable (h : Vec Ideal S16384x9216 .bf16) (a dw : Vec Ideal S16384x1024 .f32) (x : Vec Ideal S16384x2048 .f32)
  (wua : Vec Ideal S1024x2048 .f32) (wpw : Vec Ideal S1024x1024 .f32) (wuc : Vec Ideal S1024x2048 .f32)
  (wo : Vec Ideal S2048x2048 .f32) (ng nb bpw : Vec Ideal S1024 .f32) (fg : Vec Ideal S2048 .f32)

/-- Column `o + k` of a row of the projected features. -/
def feat (o n : ℕ) (ho : o + n ≤ 9216) (i : Fin 16384) (k : Fin n) : EReal :=
  h (ix2 i ⟨o + k.1, by omega⟩)

theorem ref_v7 (i : Fin 16384) (j : Fin 2048) :
    val_main_v7 (F := Ideal) h a wua (ix2 i j)
      = branchAttn (fun k => a (ix2 i k)) (feat h 5120 1024 (by decide) i) (fun k l => wua (ix2 k l)) j := by
  pointwise [val_main_v7, val_main_v6, val_main_v5, val_main_v1, val_main_v0, val_main_call0_v0, val_main_call0_v1,
    val_main_call0_v2, val_main_call0_v3, val_main_call0_v4, val_main_call0_v5, val_main_call0_cst, val_main_call0_cst_0,
    branchAttn, silu, feat, Ideal.logistic]

theorem ref_v32 (i : Fin 16384) (k : Fin 1024) :
    val_main_v32 (F := Ideal) dw ng nb (ix2 i k)
      = silu (layerNorm (fun l => dw (ix2 i l)) (fun l => ng (ix1 l)) (fun l => nb (ix1 l)) k) := by
  pointwise [val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_cst, val_main_cst_0, val_main_cst_1, val_main_cst_2, val_main_cst_3, val_main_call1_v0,
    val_main_call1_v1, val_main_call1_v2, val_main_call1_v3, val_main_call1_v4, val_main_call1_v5, val_main_call1_cst,
    val_main_call1_cst_0, silu, layerNorm, mean, eps, Ideal.logistic]

theorem ref_v39 (i : Fin 16384) (j : Fin 2048) :
    val_main_v39 (F := Ideal) h dw wpw wuc ng nb bpw (ix2 i j)
      = branchConv (fun k => val_main_v32 (F := Ideal) dw ng nb (ix2 i k)) (feat h 8192 1024 (by decide) i)
          (fun k => bpw (ix1 k)) (fun k l => wpw (ix2 k l)) (fun k l => wuc (ix2 k l)) j := by
  pointwise [val_main_v39, val_main_v38, val_main_v37, val_main_v36, val_main_v35, val_main_v34, val_main_v33,
    val_main_v2, val_main_v0, val_main_call2_v0, val_main_call2_v1, val_main_call2_v2, val_main_call2_v3,
    val_main_call2_v4, val_main_call2_v5, val_main_call2_cst, val_main_call2_cst_0, branchConv, silu, feat, Ideal.logistic]

theorem ref_v56 (i : Fin 16384) (j : Fin 2048) :
    val_main_v56 (F := Ideal) h a dw x wua wpw wuc wo ng nb bpw (ix2 i j)
      = residual (feat h 0 2048 (by decide) i) (feat h 2048 2048 (by decide) i) (fun k => x (ix2 i k))
          (fun k => val_main_v7 (F := Ideal) h a wua (ix2 i k))
          (fun k => val_main_v39 (F := Ideal) h dw wpw wuc ng nb bpw (ix2 i k)) (fun k l => wo (ix2 k l)) j := by
  pointwise [val_main_v56, val_main_v55, val_main_v54, val_main_v53, val_main_v52, val_main_v51, val_main_v50,
    val_main_v49, val_main_v48, val_main_v47, val_main_v46, val_main_v45, val_main_v44, val_main_v43, val_main_v42,
    val_main_v41, val_main_v40, val_main_v4, val_main_v3, val_main_v0, val_main_cst_4, val_main_cst_5, val_main_cst_6,
    val_main_cst_7, residual, feat, Ideal.logistic]

theorem ref_v69 (i : Fin 16384) (j : Fin 2048) :
    val_main_v69 (F := Ideal) h a dw x wua wpw wuc wo ng nb bpw fg (ix2 i j)
      = rmsNorm (fun k => val_main_v56 (F := Ideal) h a dw x wua wpw wuc wo ng nb bpw (ix2 i k)) (fun k => fg (ix1 k)) j := by
  pointwise [val_main_v69, val_main_v68, val_main_v67, val_main_v66, val_main_v65, val_main_v64, val_main_v63, val_main_v62,
    val_main_v61, val_main_v60, val_main_v59, val_main_v58, val_main_v57, val_main_cst_8, val_main_cst_9, val_main_cst_10,
    rmsNorm, mean, eps]

/-- The reference's result at row `i`. -/
theorem reference_apply (i : Fin 16384) (j : Fin 2048) :
    val_main_v69 (F := Ideal) h a dw x wua wpw wuc wo ng nb bpw fg (ix2 i j)
      = row (fun k => a (ix2 i k)) (feat h 5120 1024 (by decide) i) (fun k => dw (ix2 i k)) (feat h 8192 1024 (by decide) i)
          (feat h 0 2048 (by decide) i) (feat h 2048 2048 (by decide) i) (fun k => x (ix2 i k)) (fun k l => wua (ix2 k l))
          (fun k l => wpw (ix2 k l)) (fun k l => wuc (ix2 k l)) (fun k l => wo (ix2 k l)) (fun k => ng (ix1 k))
          (fun k => nb (ix1 k)) (fun k => bpw (ix1 k)) (fun k => fg (ix1 k)) j := by
  rw [ref_v69]
  unfold row
  simp only [ref_v56, ref_v39, ref_v32, ref_v7]

end Cert.Proof.Tail

end
-- ==== Proof.TailValue.lean ====
/-
  The tail kernel's result array: after the run it is the reference's term of the arguments. A grid point writes 256
  rows; row `r` of point `t` is the tail of row `256 * t + r` of the arrays.
-/
module

public import proofs.«01_k».proof.Proof.TailKernel
public import proofs.«01_k».proof.Proof.TailReference
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Proof.Tail

open Idealize.ShloMosaic Idealize.ShloMosaic.TcCoe Idealize.SL.Sem
open Cert.Kernel2Ideal Cert.Kernel2Ideal.Gen

variable (m : (ℓ : Loc nD τ sig) → Buf (Elt Ideal) ℓ)

/-- The windows' block indices at a grid point. -/
theorem idx : ∀ t : Fin cfg0.N, win0_0.index t = ![t.val, 0] ∧ win0_1.index t = ![t.val, 5] ∧ win0_2.index t = ![t.val, 0]
    ∧ win0_3.index t = ![t.val, 8] ∧ win0_4.index t = ![t.val, 0] ∧ win0_5.index t = ![t.val, 1]
    ∧ win0_6.index t = ![t.val, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![t.val, 0] ∧ t.val < 64 :=
  (by decide +kernel : ∀ t : Fin grid0.N, _)

/-- The reference's result over the kernel's argument arrays. -/
abbrev result (c : Dev nD) : Vec Ideal S16384x2048 .f32 :=
  Cert.Reference2Ideal.Read.val_main_v69 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

set_option maxHeartbeats 1600000 in
/-- What the body stores at `(r, j)` of point `t` is the reference's result at row `256 * t + r`. -/
theorem point (c : Dev nD) (t : Fin cfg0.N) (r : Fin 256) (j : Fin 2048) (hr : t.val * 256 + r.val < 16384) :
    block (iblk m c 0 t) (iblk m c 1 t) (iblk m c 2 t) (iblk m c 3 t) (X0_4 m c t) (X0_5 m c t) (iblk m c 6 t)
        (iblk m c 7 t) (iblk m c 8 t) (iblk m c 9 t) (iblk m c 10 t) (iblk m c 11 t) (iblk m c 12 t) (iblk m c 13 t)
        (iblk m c 14 t) (ix2 r j)
      = result m c (ix2 ⟨t.val * 256 + r.val, hr⟩ j) := by
  rw [block_apply]
  unfold result
  rw [reference_apply]
  congr 1
  · funext k; blk_ext [iblk, V, idx t]
  · funext k; unfold feat; blk_ext [iblk, V, idx t]
  · funext k; blk_ext [iblk, V, idx t]
  · funext k; unfold feat; blk_ext [iblk, V, idx t]
  · funext k; unfold feat X0_4 Pipeline.Window.fill; rw [dif_pos (moved0_4 t _)]; blk_ext [iblk, V, idx t]
  · funext k; unfold feat X0_5 Pipeline.Window.fill; rw [dif_pos (moved0_5 t _)]; blk_ext [iblk, V, idx t]
  · funext k; blk_ext [iblk, V, idx t]
  · funext k l; blk_ext! [iblk, V, idx t]
  · funext k l; blk_ext! [iblk, V, idx t]
  · funext k l; blk_ext! [iblk, V, idx t]
  · funext k l; blk_ext! [iblk, V, idx t]
  · funext k; blk_ext! [iblk, V, idx t]
  · funext k; blk_ext! [iblk, V, idx t]
  · funext k; blk_ext! [iblk, V, idx t]
  · funext k; blk_ext! [iblk, V, idx t]

/-- So the result array ends at the reference's result. -/
theorem final (c : Dev nD) : (dats m 0 c).arrAt 15 (cfgs 0).N = result m c := by
  refine (dats m 0 c).arrAt_eq_of_covers 15 _ (by decide +kernel) fun t _ y => ?_
  blk_simp
  rw [after0_15]; unfold outsAt0; frame_out
  obtain ⟨r, j, rfl⟩ : ∃ (r : Fin 256) (j : Fin 2048), y = ix2 r j := ⟨y 0, y 1, by funext a; fin_cases a <;> rfl⟩
  have ht := (idx t).2.2.2.2.2.2.2.2.2.2.2.2.2.2.2.2
  have hr : t.val * 256 + r.val < 16384 := by omega
  refine (point m c t r j hr).trans (congrArg (result m c) ?_)
  blk_ext [idx t]

end Cert.Proof.Tail

end
-- ==== Proof.TailClaims.lean ====
/-
  The claims about the tail: its frames, and its equality with the reference over the extended reals.
-/
module

public import proofs.«01_k».proof.Defs
public import proofs.«01_k».proof.Proof.TailValue
public import proofs.«01_k».proof.Proof.Gen.Kernel2.Frame
public import Idealize.ShloMosaic.Lib.Quiescent

@[expose] public section

noncomputable section

namespace Cert.Proof.Tail

open Idealize.ShloMosaic Idealize.ShloMosaic.TcCoe Idealize.SL.Sem

/-- The kernel leaves its arguments unchanged. -/
theorem frame_kernel : Cert.quiescent_Kernel2 := fun m ρ _ => Cert.Kernel2.Gen.frame m ρ

/-- So does its idealization. -/
theorem frame_kernelIdeal : Cert.quiescent_Kernel2Ideal := fun m ρ _ => Cert.Kernel2Ideal.Gen.frame m ρ

/-- So does the reference. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference end with the same result. -/
theorem algebraic : Cert.algebraic_Kernel2Ideal_Reference2Ideal := by
  intro m g m' g' _ hagree
  refine ⟨fun c => result m c, ?_, ?_⟩
  · exact (θ_run Cert.Kernel2Ideal.defs _ _).mono (fun _ h c => ⟨(h c).1.trans (final m c), (h c).2⟩)
      (Cert.Kernel2Ideal.Value.run_blocks m g)
  · refine (θ_run Cert.Reference2Ideal.defs _ _).mono (fun _ h c => ⟨(h c).1.trans ?_, (h c).2⟩)
      (Cert.Reference2Ideal.Value.run (F := Ideal) m' g')
    obtain ⟨h0, h1, h2, h3, h4, h5, h6, h7, h8, h9, h10, h11⟩ := hagree c
    refine (Cert.Reference2Ideal.Read.val_main_v69_eq m' c).trans ?_
    show _ = result m c
    unfold result
    rw [h0, h1, h2, h3, h4, h5, h6, h7, h8, h9, h10, h11]

end Cert.Proof.Tail

end
-- ==== Proof.SampleTailKernel.lean ====
/-
  At the sample batch's size, 1024 rows.

  The tail kernel's stored block, element by element: row `r` of the block is `Tail.row` of row `r` of its input
  blocks.
-/
module

public import proofs.«01_k».proof.Proof.TailSpec
public import proofs.«01_k».proof.Proof.Gen.Kernel4Ideal.Skeleton

@[expose] public section

noncomputable section

namespace Cert.Proof.Tail.Sample

open Idealize.ShloMosaic Cert.Kernel4Ideal Cert.Kernel4Ideal.Gen

/-- The attention branch of the block. -/
theorem pay2_apply (v0 : Vec Ideal S256x1024 .f32) (v1 : Vec Ideal S256x1024 .bf16) (v7 : Vec Ideal S1024x2048 .bf16)
    (r : Fin 256) (j : Fin 2048) :
    k0_pay2 (F := Ideal) v0 v1 v7 (ix2 r j)
      = branchAttn (fun k => v0 (ix2 r k)) (fun k => v1 (ix2 r k)) (fun k l => v7 (ix2 k l)) j := by
  pointwise [k0_pay2, branchAttn, silu]

/-- The normalised and activated convolution rows of the block. -/
theorem pay3_apply (v10 : Vec Ideal S256x1024 .f32) (v29 v33 : Vec Ideal S1x1024 .f32) (r : Fin 256) (k : Fin 1024) :
    k0_pay3 (F := Ideal) v10 v29 v33 (ix2 r k)
      = silu (layerNorm (fun l => v10 (ix2 r l)) (fun l => v29 (ix2 0 l)) (fun l => v33 (ix2 0 l)) k) := by
  pointwise [k0_pay3, silu, layerNorm, mean, eps]

/-- The residual rows of the block. -/
theorem pay4_apply (v9 : FVec Ideal S256x2048 .f32) (v39 : FVec Ideal S256x1024 .bf16) (v40 : Vec Ideal S1024x1024 .bf16)
    (v43 : Vec Ideal S1x1024 .f32) (v47 : Vec Ideal S256x1024 .bf16) (v53 : Vec Ideal S1024x2048 .bf16)
    (v56 v60 : Vec Ideal S256x2048 .bf16) (v65 : Vec Ideal S256x2048 .f32) (v67 : Vec Ideal S2048x2048 .bf16)
    (r : Fin 256) (j : Fin 2048) :
    k0_pay4 (F := Ideal) v9 v39 v40 v43 v47 v53 v56 v60 v65 v67 (ix2 r j)
      = residual (fun k => v56 (ix2 r k)) (fun k => v60 (ix2 r k)) (fun k => v65 (ix2 r k)) (fun k => v9 (ix2 r k))
          (branchConv (fun k => v39 (ix2 r k)) (fun k => v47 (ix2 r k)) (fun k => v43 (ix2 0 k))
            (fun k l => v40 (ix2 k l)) (fun k l => v53 (ix2 k l)))
          (fun k l => v67 (ix2 k l)) j := by
  pointwise [k0_pay4, residual, branchConv, silu]

/-- The scale of each row of the block. -/
theorem pay5_apply (v9 : FVec Ideal S256x2048 .f32) (v39 : FVec Ideal S256x1024 .bf16) (v40 : Vec Ideal S1024x1024 .bf16)
    (v43 : Vec Ideal S1x1024 .f32) (v47 : Vec Ideal S256x1024 .bf16) (v53 : Vec Ideal S1024x2048 .bf16)
    (v56 v60 : Vec Ideal S256x2048 .bf16) (v65 : Vec Ideal S256x2048 .f32) (v67 : Vec Ideal S2048x2048 .bf16)
    (r : Fin 256) (z : Fin 1) :
    k0_pay5 (F := Ideal) v9 v39 v40 v43 v47 v53 v56 v60 v65 v67 (ix2 r z)
      = Ideal.rsqrt (mean 0x45000000#32 (fun l : Fin 2048 =>
          k0_pay4 (F := Ideal) v9 v39 v40 v43 v47 v53 v56 v60 v65 v67 (ix2 r l)
            * k0_pay4 (F := Ideal) v9 v39 v40 v43 v47 v53 v56 v60 v65 v67 (ix2 r l)) + eps) := by
  pointwise [k0_pay5, mean, eps]

/-- The stored block from the residual rows and their scales. -/
theorem pay1_apply (v70 : FVec Ideal S256x2048 .f32) (v78 : FVec Ideal S256x1 .f32) (v81 : Vec Ideal S1x2048 .f32)
    (r : Fin 256) (j : Fin 2048) :
    k0_pay1 (F := Ideal) v70 v78 v81 (ix2 r j) = v70 (ix2 r j) * v78 (ix2 r 0) * v81 (ix2 0 j) := by
  pointwise [k0_pay1]

/-- The block the kernel stores, as a function of its fifteen input blocks. -/
def block (x0 : Vec Ideal S256x1024 .f32) (x1 : Vec Ideal S256x1024 .bf16) (x2 : Vec Ideal S256x1024 .f32)
    (x3 : Vec Ideal S256x1024 .bf16) (x4 x5 : Vec Ideal S256x2048 .bf16) (x6 : Vec Ideal S256x2048 .f32)
    (x7 : Vec Ideal S1024x2048 .bf16) (x8 : Vec Ideal S1024x1024 .bf16) (x9 : Vec Ideal S1024x2048 .bf16)
    (x10 : Vec Ideal S2048x2048 .bf16) (x11 x12 x13 : Vec Ideal S1x1024 .f32) (x14 : Vec Ideal S1x2048 .f32) :
    Vec Ideal S256x2048 .f32 :=
  k0_pay1 (F := Ideal)
    (k0_pay4 (k0_pay2 x0 x1 x7) (k0_pay3 x2 x11 x12) x8 x13 x3 x9 x4 x5 x6 x10)
    (k0_pay5 (k0_pay2 x0 x1 x7) (k0_pay3 x2 x11 x12) x8 x13 x3 x9 x4 x5 x6 x10) x14

/-- Row `r` of the stored block is the tail of row `r` of the input blocks. -/
theorem block_apply (x0 : Vec Ideal S256x1024 .f32) (x1 : Vec Ideal S256x1024 .bf16) (x2 : Vec Ideal S256x1024 .f32)
    (x3 : Vec Ideal S256x1024 .bf16) (x4 x5 : Vec Ideal S256x2048 .bf16) (x6 : Vec Ideal S256x2048 .f32)
    (x7 : Vec Ideal S1024x2048 .bf16) (x8 : Vec Ideal S1024x1024 .bf16) (x9 : Vec Ideal S1024x2048 .bf16)
    (x10 : Vec Ideal S2048x2048 .bf16) (x11 x12 x13 : Vec Ideal S1x1024 .f32) (x14 : Vec Ideal S1x2048 .f32)
    (r : Fin 256) (j : Fin 2048) :
    block x0 x1 x2 x3 x4 x5 x6 x7 x8 x9 x10 x11 x12 x13 x14 (ix2 r j)
      = row (fun k => x0 (ix2 r k)) (fun k => x1 (ix2 r k)) (fun k => x2 (ix2 r k)) (fun k => x3 (ix2 r k))
          (fun k => x4 (ix2 r k)) (fun k => x5 (ix2 r k)) (fun k => x6 (ix2 r k)) (fun k l => x7 (ix2 k l))
          (fun k l => x8 (ix2 k l)) (fun k l => x9 (ix2 k l)) (fun k l => x10 (ix2 k l)) (fun k => x11 (ix2 0 k))
          (fun k => x12 (ix2 0 k)) (fun k => x13 (ix2 0 k)) (fun k => x14 (ix2 0 k)) j := by
  unfold block row rmsNorm
  rw [pay1_apply, pay5_apply]
  simp only [pay4_apply, pay3_apply, pay2_apply]

end Cert.Proof.Tail.Sample

end
-- ==== Proof.SampleTailReference.lean ====
/-
  At the sample batch's size, 1024 rows.

  The reference's tail, element by element: its result at row `i` is `Tail.row` of row `i` of its arguments.
-/
module

public import proofs.«01_k».proof.Proof.TailSpec
public import proofs.«01_k».proof.Proof.Gen.Reference4Ideal.Read

@[expose] public section

noncomputable section

namespace Cert.Proof.Tail.Sample

open Idealize.ShloMosaic Cert.Reference4Ideal Cert.Reference4Ideal.Read

variable (h : Vec Ideal S1024x9216 .bf16) (a dw : Vec Ideal S1024x1024 .f32) (x : Vec Ideal S1024x2048 .f32)
  (wua : Vec Ideal S1024x2048 .f32) (wpw : Vec Ideal S1024x1024 .f32) (wuc : Vec Ideal S1024x2048 .f32)
  (wo : Vec Ideal S2048x2048 .f32) (ng nb bpw : Vec Ideal S1024 .f32) (fg : Vec Ideal S2048 .f32)

/-- Column `o + k` of a row of the projected features. -/
def feat (o n : ℕ) (ho : o + n ≤ 9216) (i : Fin 1024) (k : Fin n) : EReal :=
  h (ix2 i ⟨o + k.1, by omega⟩)

theorem ref_v7 (i : Fin 1024) (j : Fin 2048) :
    val_main_v7 (F := Ideal) h a wua (ix2 i j)
      = branchAttn (fun k => a (ix2 i k)) (feat h 5120 1024 (by decide) i) (fun k l => wua (ix2 k l)) j := by
  pointwise [val_main_v7, val_main_v6, val_main_v5, val_main_v1, val_main_v0, val_main_call0_v0, val_main_call0_v1,
    val_main_call0_v2, val_main_call0_v3, val_main_call0_v4, val_main_call0_v5, val_main_call0_cst, val_main_call0_cst_0,
    branchAttn, silu, feat, Ideal.logistic]

theorem ref_v32 (i : Fin 1024) (k : Fin 1024) :
    val_main_v32 (F := Ideal) dw ng nb (ix2 i k)
      = silu (layerNorm (fun l => dw (ix2 i l)) (fun l => ng (ix1 l)) (fun l => nb (ix1 l)) k) := by
  pointwise [val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_cst, val_main_cst_0, val_main_cst_1, val_main_cst_2, val_main_cst_3, val_main_call1_v0,
    val_main_call1_v1, val_main_call1_v2, val_main_call1_v3, val_main_call1_v4, val_main_call1_v5, val_main_call1_cst,
    val_main_call1_cst_0, silu, layerNorm, mean, eps, Ideal.logistic]

theorem ref_v39 (i : Fin 1024) (j : Fin 2048) :
    val_main_v39 (F := Ideal) h dw wpw wuc ng nb bpw (ix2 i j)
      = branchConv (fun k => val_main_v32 (F := Ideal) dw ng nb (ix2 i k)) (feat h 8192 1024 (by decide) i)
          (fun k => bpw (ix1 k)) (fun k l => wpw (ix2 k l)) (fun k l => wuc (ix2 k l)) j := by
  pointwise [val_main_v39, val_main_v38, val_main_v37, val_main_v36, val_main_v35, val_main_v34, val_main_v33,
    val_main_v2, val_main_v0, val_main_call2_v0, val_main_call2_v1, val_main_call2_v2, val_main_call2_v3,
    val_main_call2_v4, val_main_call2_v5, val_main_call2_cst, val_main_call2_cst_0, branchConv, silu, feat, Ideal.logistic]

theorem ref_v56 (i : Fin 1024) (j : Fin 2048) :
    val_main_v56 (F := Ideal) h a dw x wua wpw wuc wo ng nb bpw (ix2 i j)
      = residual (feat h 0 2048 (by decide) i) (feat h 2048 2048 (by decide) i) (fun k => x (ix2 i k))
          (fun k => val_main_v7 (F := Ideal) h a wua (ix2 i k))
          (fun k => val_main_v39 (F := Ideal) h dw wpw wuc ng nb bpw (ix2 i k)) (fun k l => wo (ix2 k l)) j := by
  pointwise [val_main_v56, val_main_v55, val_main_v54, val_main_v53, val_main_v52, val_main_v51, val_main_v50,
    val_main_v49, val_main_v48, val_main_v47, val_main_v46, val_main_v45, val_main_v44, val_main_v43, val_main_v42,
    val_main_v41, val_main_v40, val_main_v4, val_main_v3, val_main_v0, val_main_cst_4, val_main_cst_5, val_main_cst_6,
    val_main_cst_7, residual, feat, Ideal.logistic]

theorem ref_v69 (i : Fin 1024) (j : Fin 2048) :
    val_main_v69 (F := Ideal) h a dw x wua wpw wuc wo ng nb bpw fg (ix2 i j)
      = rmsNorm (fun k => val_main_v56 (F := Ideal) h a dw x wua wpw wuc wo ng nb bpw (ix2 i k)) (fun k => fg (ix1 k)) j := by
  pointwise [val_main_v69, val_main_v68, val_main_v67, val_main_v66, val_main_v65, val_main_v64, val_main_v63, val_main_v62,
    val_main_v61, val_main_v60, val_main_v59, val_main_v58, val_main_v57, val_main_cst_8, val_main_cst_9, val_main_cst_10,
    rmsNorm, mean, eps]

/-- The reference's result at row `i`. -/
theorem reference_apply (i : Fin 1024) (j : Fin 2048) :
    val_main_v69 (F := Ideal) h a dw x wua wpw wuc wo ng nb bpw fg (ix2 i j)
      = row (fun k => a (ix2 i k)) (feat h 5120 1024 (by decide) i) (fun k => dw (ix2 i k)) (feat h 8192 1024 (by decide) i)
          (feat h 0 2048 (by decide) i) (feat h 2048 2048 (by decide) i) (fun k => x (ix2 i k)) (fun k l => wua (ix2 k l))
          (fun k l => wpw (ix2 k l)) (fun k l => wuc (ix2 k l)) (fun k l => wo (ix2 k l)) (fun k => ng (ix1 k))
          (fun k => nb (ix1 k)) (fun k => bpw (ix1 k)) (fun k => fg (ix1 k)) j := by
  rw [ref_v69]
  unfold row
  simp only [ref_v56, ref_v39, ref_v32, ref_v7]

end Cert.Proof.Tail.Sample

end
-- ==== Proof.SampleTailValue.lean ====
/-
  At the sample batch's size, 1024 rows.

  The tail kernel's result array: after the run it is the reference's term of the arguments. A grid point writes 256
  rows; row `r` of point `t` is the tail of row `256 * t + r` of the arrays.
-/
module

public import proofs.«01_k».proof.Proof.SampleTailKernel
public import proofs.«01_k».proof.Proof.SampleTailReference
public import proofs.«01_k».proof.Proof.Gen.Kernel4Ideal.Value
public import Idealize.ShloMosaic.Lib.Pipeline.ValueKit
public import Idealize.ShloMosaic.Lib.Claim

@[expose] public section

set_option maxRecDepth 16384

noncomputable section

namespace Cert.Proof.Tail.Sample

open Idealize.ShloMosaic Idealize.ShloMosaic.TcCoe Idealize.SL.Sem
open Cert.Kernel4Ideal Cert.Kernel4Ideal.Gen

variable (m : (ℓ : Loc nD τ sig) → Buf (Elt Ideal) ℓ)

/-- The windows' block indices at a grid point. -/
theorem idx : ∀ t : Fin cfg0.N, win0_0.index t = ![t.val, 0] ∧ win0_1.index t = ![t.val, 5] ∧ win0_2.index t = ![t.val, 0]
    ∧ win0_3.index t = ![t.val, 8] ∧ win0_4.index t = ![t.val, 0] ∧ win0_5.index t = ![t.val, 1]
    ∧ win0_6.index t = ![t.val, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![t.val, 0] ∧ t.val < 4 :=
  (by decide +kernel : ∀ t : Fin grid0.N, _)

/-- The reference's result over the kernel's argument arrays. -/
abbrev result (c : Dev nD) : Vec Ideal S1024x2048 .f32 :=
  Cert.Reference4Ideal.Read.val_main_v69 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

set_option maxHeartbeats 1600000 in
/-- What the body stores at `(r, j)` of point `t` is the reference's result at row `256 * t + r`. -/
theorem point (c : Dev nD) (t : Fin cfg0.N) (r : Fin 256) (j : Fin 2048) (hr : t.val * 256 + r.val < 1024) :
    block (iblk m c 0 t) (iblk m c 1 t) (iblk m c 2 t) (iblk m c 3 t) (X0_4 m c t) (X0_5 m c t) (iblk m c 6 t)
        (iblk m c 7 t) (iblk m c 8 t) (iblk m c 9 t) (iblk m c 10 t) (iblk m c 11 t) (iblk m c 12 t) (iblk m c 13 t)
        (iblk m c 14 t) (ix2 r j)
      = result m c (ix2 ⟨t.val * 256 + r.val, hr⟩ j) := by
  rw [block_apply]
  unfold result
  rw [reference_apply]
  congr 1
  · funext k; blk_ext [iblk, V, idx t]
  · funext k; unfold feat; blk_ext [iblk, V, idx t]
  · funext k; blk_ext [iblk, V, idx t]
  · funext k; unfold feat; blk_ext [iblk, V, idx t]
  · funext k; unfold feat X0_4 Pipeline.Window.fill; rw [dif_pos (moved0_4 t _)]; blk_ext [iblk, V, idx t]
  · funext k; unfold feat X0_5 Pipeline.Window.fill; rw [dif_pos (moved0_5 t _)]; blk_ext [iblk, V, idx t]
  · funext k; blk_ext [iblk, V, idx t]
  · funext k l; blk_ext! [iblk, V, idx t]
  · funext k l; blk_ext! [iblk, V, idx t]
  · funext k l; blk_ext! [iblk, V, idx t]
  · funext k l; blk_ext! [iblk, V, idx t]
  · funext k; blk_ext! [iblk, V, idx t]
  · funext k; blk_ext! [iblk, V, idx t]
  · funext k; blk_ext! [iblk, V, idx t]
  · funext k; blk_ext! [iblk, V, idx t]

/-- So the result array ends at the reference's result. -/
theorem final (c : Dev nD) : (dats m 0 c).arrAt 15 (cfgs 0).N = result m c := by
  refine (dats m 0 c).arrAt_eq_of_covers 15 _ (by decide +kernel) fun t _ y => ?_
  blk_simp
  rw [after0_15]; unfold outsAt0; frame_out
  obtain ⟨r, j, rfl⟩ : ∃ (r : Fin 256) (j : Fin 2048), y = ix2 r j := ⟨y 0, y 1, by funext a; fin_cases a <;> rfl⟩
  have ht := (idx t).2.2.2.2.2.2.2.2.2.2.2.2.2.2.2.2
  have hr : t.val * 256 + r.val < 1024 := by omega
  refine (point m c t r j hr).trans (congrArg (result m c) ?_)
  blk_ext [idx t]

end Cert.Proof.Tail.Sample

end
-- ==== Proof.SampleTailClaims.lean ====
/-
  At the sample batch's size, 1024 rows.

  The claims about the tail: its frames, and its equality with the reference over the extended reals.
-/
module

public import proofs.«01_k».proof.Defs
public import proofs.«01_k».proof.Proof.SampleTailValue
public import proofs.«01_k».proof.Proof.Gen.Kernel4.Frame
public import Idealize.ShloMosaic.Lib.Quiescent

@[expose] public section

noncomputable section

namespace Cert.Proof.Tail.Sample

open Idealize.ShloMosaic Idealize.ShloMosaic.TcCoe Idealize.SL.Sem

/-- The kernel leaves its arguments unchanged. -/
theorem frame_kernel : Cert.quiescent_Kernel4 := fun m ρ _ => Cert.Kernel4.Gen.frame m ρ

/-- So does its idealization. -/
theorem frame_kernelIdeal : Cert.quiescent_Kernel4Ideal := fun m ρ _ => Cert.Kernel4Ideal.Gen.frame m ρ

/-- So does the reference. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference end with the same result. -/
theorem algebraic : Cert.algebraic_Kernel4Ideal_Reference4Ideal := by
  intro m g m' g' _ hagree
  refine ⟨fun c => result m c, ?_, ?_⟩
  · exact (θ_run Cert.Kernel4Ideal.defs _ _).mono (fun _ h c => ⟨(h c).1.trans (final m c), (h c).2⟩)
      (Cert.Kernel4Ideal.Value.run_blocks m g)
  · refine (θ_run Cert.Reference4Ideal.defs _ _).mono (fun _ h c => ⟨(h c).1.trans ?_, (h c).2⟩)
      (Cert.Reference4Ideal.Value.run (F := Ideal) m' g')
    obtain ⟨h0, h1, h2, h3, h4, h5, h6, h7, h8, h9, h10, h11⟩ := hagree c
    refine (Cert.Reference4Ideal.Read.val_main_v69_eq m' c).trans ?_
    show _ = result m c
    unfold result
    rw [h0, h1, h2, h3, h4, h5, h6, h7, h8, h9, h10, h11]

end Cert.Proof.Tail.Sample

end
-- ==== Proof.ConvChunk.lean ====
/-
  One chunk of the convolution kernel: 64 rows of output from the rows of scratch they meet. The kernel sums the 31
  taps grouped by their residue modulo eight, from eight windows of scratch rows; `chunk` is that sum as the kernel
  writes it, and `chunk_apply` says that it is the sum of the taps.
-/
module

public import proofs.«01_k».proof.Proof.Gen.Kernel5Ideal.Skeleton
public import Idealize.ShloMosaic.Lib.Pointwise

@[expose] public section

noncomputable section

namespace Cert.Proof.Conv

open Idealize.ShloMosaic Cert.Kernel5Ideal Cert.Kernel5Ideal.Gen

/-- Every row of the filter is a slice of it. -/
theorem filterRow (w : ℕ) (hw : w < 32) : S32x128.Slices ![w, 0] S1x128 :=
  (by decide : ∀ w : Fin 32, S32x128.Slices ![w.val, 0] S1x128) ⟨w, hw⟩

/-- One tap more: 64 rows times row `w` of the filter, added to a sum. -/
def tap (cw : FVec Ideal S32x128 .f32) (a : FVec Ideal S64x128 .f32) (w : ℕ) (hw : w < 32) (r : FVec Ideal S64x128 .f32) :
    FVec Ideal S64x128 .f32 :=
  addf a (mulf r (broadcastTo S64x128 (extractStridedSlice S1x128 ![w, 0] cw (filterRow w hw)) broadcasts_S1x128_S64x128))

/-- Four taps more, eight rows of the filter and of the window apart. -/
def four (cw : FVec Ideal S32x128 .f32) (a : FVec Ideal S64x128 .f32) (w : ℕ) (hw : w + 24 < 32)
    (r : Vec Ideal S88x128 .f32) : FVec Ideal S64x128 .f32 :=
  tap cw (tap cw (tap cw (tap cw a
    w (by omega) (extractStridedSlice S64x128 ![0, 0] r slices_S88x128_o0_0_S64x128))
    (w + 8) (by omega) (extractStridedSlice S64x128 ![8, 0] r slices_S88x128_o8_0_S64x128))
    (w + 16) (by omega) (extractStridedSlice S64x128 ![16, 0] r slices_S88x128_o16_0_S64x128))
    (w + 24) (by omega) (extractStridedSlice S64x128 ![24, 0] r slices_S88x128_o24_0_S64x128)

/-- The chunk as the kernel sums it: bias, then the taps of residue 6, of residue 7, and of residues 0 to 5. -/
def chunk (cw : FVec Ideal S32x128 .f32) (cb : FVec Ideal S1x128 .f32) (r0 : Vec Ideal S96x128 .f32)
    (r1 r2 r3 r4 r5 r6 r7 : Vec Ideal S88x128 .f32) : FVec Ideal S1x64x128 .f32 :=
  let a := broadcastTo S64x128 (shapeCast S1x128 cb shapeCasts_S1x128_S1x128) broadcasts_S1x128_S64x128
  let a := tap cw a 6 (by decide) (extractStridedSlice S64x128 ![8, 0] r0 slices_S96x128_o8_0_S64x128)
  let a := tap cw a 14 (by decide) (extractStridedSlice S64x128 ![16, 0] r0 slices_S96x128_o16_0_S64x128)
  let a := tap cw a 22 (by decide) (extractStridedSlice S64x128 ![24, 0] r0 slices_S96x128_o24_0_S64x128)
  let a := tap cw a 30 (by decide) (extractStridedSlice S64x128 ![32, 0] r0 slices_S96x128_o32_0_S64x128)
  let a := tap cw a 7 (by decide) (extractStridedSlice S64x128 ![8, 0] r1 slices_S88x128_o8_0_S64x128)
  let a := tap cw a 15 (by decide) (extractStridedSlice S64x128 ![16, 0] r1 slices_S88x128_o16_0_S64x128)
  let a := tap cw a 23 (by decide) (extractStridedSlice S64x128 ![24, 0] r1 slices_S88x128_o24_0_S64x128)
  let a := four cw a 0 (by decide) r2
  let a := four cw a 1 (by decide) r3
  let a := four cw a 2 (by decide) r4
  let a := four cw a 3 (by decide) r5
  let a := four cw a 4 (by decide) r6
  let a := four cw a 5 (by decide) r7
  shapeCast S1x64x128 a shapeCasts_S64x128_S1x64x128

theorem tap_apply (cw : FVec Ideal S32x128 .f32) (a : FVec Ideal S64x128 .f32) (w : ℕ) (hw : w < 32)
    (r : FVec Ideal S64x128 .f32) (s : Fin 64) (l : Fin 128) :
    tap cw a w hw r (ix2 s l) = a (ix2 s l) + r (ix2 s l) * cw (ix2 ⟨w, hw⟩ l) := by
  pointwise [tap]

/-- The taps of one residue, over a window whose row `n` is row `w + 2 + n` of the scratch rows `p`. -/
theorem four_apply (cw : FVec Ideal S32x128 .f32) (a : FVec Ideal S64x128 .f32) (w : ℕ) (hw : w + 24 < 32)
    (r : Vec Ideal S88x128 .f32) (s : Fin 64) (l : Fin 128) (p k : ℕ → EReal)
    (hr : ∀ n : Fin 88, r (ix2 n l) = p (w + 2 + n.val)) (hk : ∀ n : Fin 32, cw (ix2 n l) = k n.val) :
    four cw a w hw r (ix2 s l)
      = a (ix2 s l) + p (s.val + 2 + w) * k w + p (s.val + 2 + (w + 8)) * k (w + 8)
          + p (s.val + 2 + (w + 16)) * k (w + 16) + p (s.val + 2 + (w + 24)) * k (w + 24) := by
  have e : ∀ (o : ℕ) (h : S88x128.Slices ![o, 0] S64x128) (ho : o ≤ 24),
      extractStridedSlice S64x128 ![o, 0] r h (ix2 s l) = p (s.val + 2 + (w + o)) := fun o h ho => by
    have : extractStridedSlice S64x128 ![o, 0] r h (ix2 s l) = r (ix2 ⟨o + s.val, by omega⟩ l) := by pointwise []
    rw [this, hr]; congr 1; simp only; omega
  unfold four
  simp only [tap_apply, hk]
  rw [e 0 _ (by omega), e 8 _ (by omega), e 16 _ (by omega), e 24 _ (by omega)]
  rfl

/-- The chunk is the bias plus the sum of the 31 taps: row `s` meets rows `s + 2` to `s + 32` of the scratch rows `p`. -/
theorem chunk_apply (cw : FVec Ideal S32x128 .f32) (cb : FVec Ideal S1x128 .f32) (r0 : Vec Ideal S96x128 .f32)
    (r1 r2 r3 r4 r5 r6 r7 : Vec Ideal S88x128 .f32) (z : Fin 1) (s : Fin 64) (l : Fin 128) (p k : ℕ → EReal)
    (h0 : ∀ n : Fin 96, r0 (ix2 n l) = p n.val) (h1 : ∀ n : Fin 88, r1 (ix2 n l) = p (1 + n.val))
    (h2 : ∀ n : Fin 88, r2 (ix2 n l) = p (2 + n.val)) (h3 : ∀ n : Fin 88, r3 (ix2 n l) = p (3 + n.val))
    (h4 : ∀ n : Fin 88, r4 (ix2 n l) = p (4 + n.val)) (h5 : ∀ n : Fin 88, r5 (ix2 n l) = p (5 + n.val))
    (h6 : ∀ n : Fin 88, r6 (ix2 n l) = p (6 + n.val)) (h7 : ∀ n : Fin 88, r7 (ix2 n l) = p (7 + n.val))
    (hk : ∀ n : Fin 32, cw (ix2 n l) = k n.val) :
    chunk cw cb r0 r1 r2 r3 r4 r5 r6 r7 (ix3 z s l)
      = ∑ w ∈ Finset.range 31, p (s.val + 2 + w) * k w + cb (ix2 0 l) := by
  have e0 : ∀ (o w : ℕ) (h : S96x128.Slices ![o, 0] S64x128) (ho : o ≤ 32) (hw : o = w + 2),
      extractStridedSlice S64x128 ![o, 0] r0 h (ix2 s l) = p (s.val + 2 + w) := fun o w h ho hw => by
    have : extractStridedSlice S64x128 ![o, 0] r0 h (ix2 s l) = r0 (ix2 ⟨o + s.val, by omega⟩ l) := by pointwise []
    rw [this, h0]; congr 1; simp only; omega
  have e1 : ∀ (o w : ℕ) (h : S88x128.Slices ![o, 0] S64x128) (ho : o ≤ 24) (hw : 1 + o = w + 2),
      extractStridedSlice S64x128 ![o, 0] r1 h (ix2 s l) = p (s.val + 2 + w) := fun o w h ho hw => by
    have : extractStridedSlice S64x128 ![o, 0] r1 h (ix2 s l) = r1 (ix2 ⟨o + s.val, by omega⟩ l) := by pointwise []
    rw [this, h1]; congr 1; simp only; omega
  have c : ∀ a : FVec Ideal S64x128 .f32, shapeCast S1x64x128 a shapeCasts_S64x128_S1x64x128 (ix3 z s l) = a (ix2 s l) :=
    fun a => by pointwise []
  have b : broadcastTo S64x128 (shapeCast S1x128 cb shapeCasts_S1x128_S1x128) broadcasts_S1x128_S64x128 (ix2 s l)
      = cb (ix2 0 l) := by pointwise []
  unfold chunk
  rw [c, four_apply _ _ 5 _ _ _ _ p k h7 hk, four_apply _ _ 4 _ _ _ _ p k h6 hk, four_apply _ _ 3 _ _ _ _ p k h5 hk,
    four_apply _ _ 2 _ _ _ _ p k h4 hk, four_apply _ _ 1 _ _ _ _ p k h3 hk, four_apply _ _ 0 _ _ _ _ p k h2 hk]
  simp only [tap_apply, hk]
  rw [b, e0 8 6 _ (by omega) rfl, e0 16 14 _ (by omega) rfl, e0 24 22 _ (by omega) rfl, e0 32 30 _ (by omega) rfl,
    e1 8 7 _ (by omega) rfl, e1 16 15 _ (by omega) rfl, e1 24 23 _ (by omega) rfl]
  simp only [Finset.sum_range_succ, Finset.sum_range_zero, zero_add, Nat.reduceAdd]
  abel

end Cert.Proof.Conv

end
-- ==== Proof.ConvBlock.lean ====
/-
  The convolution kernel's stored blocks, element by element. The body fills a scratch of 2080 rows, 32 rows of zeros
  and then the gated rows, and stores the 2048 rows of output in 32 chunks of 64 rows, and the last 32 gated rows.
-/
module

public import proofs.«01_k».proof.Proof.ConvChunk
public import proofs.«01_k».proof.Proof.Gen.Kernel5Ideal.Value
public import Idealize.ShloMosaic.Lib.Pipeline.ValueKit
public import Idealize.ShloMosaic.Lib.Claim

@[expose] public section

set_option maxRecDepth 16384

noncomputable section

namespace Cert.Proof.Conv

open Idealize.ShloMosaic Idealize.ShloMosaic.TcCoe Idealize.SL.Sem
open Cert.Kernel5Ideal Cert.Kernel5Ideal.Gen

/-- The gated value: the first half times the logistic of the second. -/
def gate (a b : EReal) : EReal := a * Ideal.logistic b

/-- A sequence with 32 zeros in front. -/
def padded (u : ℕ → EReal) (n : ℕ) : EReal := if n < 32 then 0 else u (n - 32)

/-- Lane `l` of a block's gated rows. -/
def rows (x0 x1 : Vec Ideal S1x2048x128 .bf16) (l : Fin 128) (n : ℕ) : EReal :=
  if h : n < 2048 then gate (x0 (ix3 0 ⟨n, h⟩ l)) (x1 (ix3 0 ⟨n, h⟩ l)) else 0

/-- The convolution of a sequence: row `n` is the sum of the 31 taps ending at it, plus the bias. -/
def conv (u k : ℕ → EReal) (b : EReal) (n : ℕ) : EReal :=
  ∑ w ∈ Finset.range 31, padded u (n + 2 + w) * k w + b

theorem pay3_apply (v4 v7 : Vec Ideal S1x2048x128 .bf16) (n : Fin 2048) (l : Fin 128) :
    k0_pay3 (F := Ideal) v4 v7 (ix2 n l) = gate (v4 (ix3 0 n l)) (v7 (ix3 0 n l)) := by
  pointwise [k0_pay3, gate]

theorem pay2_apply (n : Fin 32) (l : Fin 128) : k0_pay2 (F := Ideal) (ix2 n l) = 0 := by
  pointwise [k0_pay2]

/-- A read of a whole buffer's contents. -/
theorem read_whole {κ : Kind} {sp : Space} {s : Shape} {e : EltTy} (M : Memref sig κ sp s e) (h : M.IsWhole)
    (x : Vec Ideal s e) (r : LoadRect s) (j : r.shape.Idx) :
    View.readAt (Elt Ideal) M.view r (h.unread x) j = x (r.idx j) := by
  rw [View.readAt_apply, h.read_unread]

section
variable (c : Dev nD) (arg2 : Memref sig .tc .vmem S1x2048x128 .bf16) (harg2 : arg2.IsWhole)
  (arg3 : Memref sig .tc .vmem S1x2048x128 .bf16) (harg3 : arg3.IsWhole)
  (arg4 : Memref sig .tc .vmem S32x128 .f32) (harg4 : arg4.IsWhole)
  (arg5 : Memref sig .tc .vmem S1x128 .f32) (harg5 : arg5.IsWhole)
  (arg8 : Memref sig .tc .vmem S2080x128 .f32)
  (x0 x1 : Vec Ideal S1x2048x128 .bf16) (x2 : Vec Ideal S32x128 .f32) (x3 : Vec Ideal S1x128 .f32)

/-- The scratch rows after the two stores into them. -/
theorem scratch_apply (y : S2080x128.Idx) :
    View.canon (kernelRun0_A.sl.HS0_2 (F := Ideal) c arg2 harg2 arg3 harg3 x0 x1) y
      = padded (rows x0 x1 (y 1)) (y 0).val := by
  refine View.canon_apply_of_pieces (Val := Elt Ideal) (e := .f32)
    (fun y : S2080x128.Idx => padded (rows x0 x1 (y 1)) (y 0).val) _ ?_ y ?_
  · intro p hp
    unfold kernelRun0_A.sl.HS0_2 at hp
    rcases List.mem_cons.mp hp with rfl | hp
    · intro x
      obtain ⟨n, l, rfl⟩ : ∃ (n : Fin 2048) (l : Fin 128), x = ix2 n l := ⟨x 0, x 1, by funext a; fin_cases a <;> rfl⟩
      dsimp only
      rw [pay3_apply, read_whole, read_whole]
      have e : (Rect.unit (s := S2080x128) ![32, 0] S2048x128.size inb_S2080x128_S2048x128_32_0).emb (ix2 n l)
          = (ix2 ⟨32 + n.val, by omega⟩ l : S2080x128.Idx) := by
        funext a; fin_cases a <;> refine Fin.ext ?_
        · show 32 + 1 * n.val = 32 + n.val; omega
        · show 0 + 1 * l.val = l.val; omega
      have f : (Rect.unit (s := S1x2048x128) ![0, 0, 0] S1x2048x128.size inb_S1x2048x128_S1x2048x128_0_0_0).idx (ix3 0 n l)
          = (ix3 0 n l : S1x2048x128.Idx) := by
        funext a; fin_cases a <;> refine Fin.ext ?_
        · rfl
        · show 0 + 1 * n.val = n.val; omega
        · show 0 + 1 * l.val = l.val; omega
      rw [e]
      show _ = padded (rows x0 x1 l) (32 + n.val)
      have g : 32 + n.val - 32 = n.val := by omega
      rw [padded, if_neg (by omega), g, rows, dif_pos n.isLt]
      exact congrArg₂ gate (congrArg x0 f) (congrArg x1 f)
    · obtain rfl := List.mem_singleton.mp hp
      intro x
      obtain ⟨n, l, rfl⟩ : ∃ (n : Fin 32) (l : Fin 128), x = ix2 n l := ⟨x 0, x 1, by funext a; fin_cases a <;> rfl⟩
      dsimp only
      rw [pay2_apply, padded, if_pos]
      show 0 + 1 * n.val < 32
      omega
  · have h1 := (y 1).isLt
    have h0 := (y 0).isLt
    change (y 0).val < 2080 at h0
    change (y 1).val < 128 at h1
    by_cases h : (y 0).val < 32
    · refine ⟨_, List.mem_cons_of_mem _ List.mem_cons_self, (Rect.mem_set_unit (s := S2080x128) (inb := inb_S2080x128_S32x128_0_0)).mpr fun a => ?_⟩
      fin_cases a
      · exact ⟨Nat.zero_le _, by show (y 0).val < 0 + 32; omega⟩
      · exact ⟨Nat.zero_le _, by show (y 1).val < 0 + 128; exact (Nat.zero_add 128).symm ▸ h1⟩
    · refine ⟨_, List.mem_cons_self, (Rect.mem_set_unit (s := S2080x128) (inb := inb_S2080x128_S2048x128_32_0)).mpr fun a => ?_⟩
      fin_cases a
      · exact ⟨by show 32 ≤ (y 0).val; omega, by show (y 0).val < 32 + 2048; exact h0⟩
      · exact ⟨Nat.zero_le _, by show (y 1).val < 0 + 128; exact (Nat.zero_add 128).symm ▸ h1⟩

/-- The window of `n` scratch rows from row `o` on, as the body loads it. -/
def window (n o : ℕ) (h : ∀ a, (![o, 0] : Fin 2 → ℕ) a + (![n, 128] : Fin 2 → ℕ) a ≤ S2080x128.size a) :
    Vec Ideal ⟨2, ![n, 128]⟩ .f32 :=
  arg8.view.readCov (kernelRun0_A.sl.HS0_2 (F := Ideal) c arg2 harg2 arg3 harg3 x0 x1)
    (Rect.unit (s := S2080x128) ![o, 0] ![n, 128] h).toLoadRect

theorem window_apply (n o : ℕ) (h : ∀ a, (![o, 0] : Fin 2 → ℕ) a + (![n, 128] : Fin 2 → ℕ) a ≤ S2080x128.size a)
    (r : Fin n) (l : Fin 128) :
    window c arg2 harg2 arg3 harg3 arg8 x0 x1 n o h (ix2 r l) = padded (rows x0 x1 l) (o + r.val) := by
  unfold window
  rw [View.readCov_eq_canon']
  refine (scratch_apply c arg2 harg2 arg3 harg3 x0 x1 _).trans ?_
  have e1 : ((Rect.unit (s := S2080x128) ![o, 0] ![n, 128] h).toLoadRect.idx (ix2 r l) 1) = l :=
    Fin.ext (by show 0 + 1 * l.val = l.val; omega)
  have e0 : ((Rect.unit (s := S2080x128) ![o, 0] ![n, 128] h).toLoadRect.idx (ix2 r l) 0).val = o + r.val := by
    show o + 1 * r.val = o + r.val; omega
  rw [e1, e0]

/-- Every chunk's window lies in the scratch. -/
theorem inside (n o : ℕ) (h : o + n ≤ 2080) :
    ∀ a, (![o, 0] : Fin 2 → ℕ) a + (![n, 128] : Fin 2 → ℕ) a ≤ S2080x128.size a := by
  intro a; fin_cases a
  · exact h
  · exact le_refl 128

/-- Every chunk lies in the output block. -/
theorem insideOut (k : Fin 32) : ∀ a, (![0, 64 * k.val, 0] : Fin 3 → ℕ) a + S1x64x128.size a ≤ S1x2048x128.size a := by
  intro a; fin_cases a
  · exact le_refl 1
  · show 64 * k.val + 64 ≤ 2048; omega
  · exact le_refl 128

/-- The store of chunk `k`. -/
def piece (k : Fin 32) : View.Piece (Elt Ideal) S1x2048x128 .f32 :=
  ⟨Rect.unit ![0, 64 * k.val, 0] S1x64x128.size (insideOut k),
    chunk (kernelRun0_A.sl.r (F := Ideal) c arg4 harg4 x2) (kernelRun0_A.sl.r_1 (F := Ideal) c arg5 harg5 x3)
      (window c arg2 harg2 arg3 harg3 arg8 x0 x1 96 (64 * k.val) (inside _ _ (by omega)))
      (window c arg2 harg2 arg3 harg3 arg8 x0 x1 88 (64 * k.val + 1) (inside _ _ (by omega)))
      (window c arg2 harg2 arg3 harg3 arg8 x0 x1 88 (64 * k.val + 2) (inside _ _ (by omega)))
      (window c arg2 harg2 arg3 harg3 arg8 x0 x1 88 (64 * k.val + 3) (inside _ _ (by omega)))
      (window c arg2 harg2 arg3 harg3 arg8 x0 x1 88 (64 * k.val + 4) (inside _ _ (by omega)))
      (window c arg2 harg2 arg3 harg3 arg8 x0 x1 88 (64 * k.val + 5) (inside _ _ (by omega)))
      (window c arg2 harg2 arg3 harg3 arg8 x0 x1 88 (64 * k.val + 6) (inside _ _ (by omega)))
      (window c arg2 harg2 arg3 harg3 arg8 x0 x1 88 (64 * k.val + 7) (inside _ _ (by omega)))⟩

/-- Row `w` of lane `l` of the filter block. -/
def filter (l : Fin 128) (w : ℕ) : EReal := if h : w < 32 then x2 (ix2 ⟨w, h⟩ l) else 0

/-- The first output block. -/
def out (y : S1x2048x128.Idx) : EReal :=
  conv (rows x0 x1 (y 2)) (filter x2 (y 2)) (x3 (ix2 0 (y 2))) (y 1).val

/-- A chunk's store is that part of the output block. -/
theorem piece_apply (k : Fin 32) (x : (piece c arg2 harg2 arg3 harg3 arg4 harg4 arg5 harg5 arg8 x0 x1 x2 x3 k).1.shape.Idx) :
    (piece c arg2 harg2 arg3 harg3 arg4 harg4 arg5 harg5 arg8 x0 x1 x2 x3 k).2 x
      = out x0 x1 x2 x3 ((piece c arg2 harg2 arg3 harg3 arg4 harg4 arg5 harg5 arg8 x0 x1 x2 x3 k).1.emb x) := by
  obtain ⟨z, s, l, rfl⟩ : ∃ (z : Fin 1) (s : Fin 64) (l : Fin 128), x = ix3 z s l :=
    ⟨x 0, x 1, x 2, by funext a; fin_cases a <;> rfl⟩
  have e2 : (piece c arg2 harg2 arg3 harg3 arg4 harg4 arg5 harg5 arg8 x0 x1 x2 x3 k).1.emb (ix3 z s l) 2 = l :=
    Fin.ext (by show 0 + 1 * l.val = l.val; omega)
  have e1 : ((piece c arg2 harg2 arg3 harg3 arg4 harg4 arg5 harg5 arg8 x0 x1 x2 x3 k).1.emb (ix3 z s l) 1).val
      = 64 * k.val + s.val := by show 64 * k.val + 1 * s.val = 64 * k.val + s.val; omega
  unfold out
  rw [e1, e2]
  have hb : kernelRun0_A.sl.r_1 (F := Ideal) c arg5 harg5 x3 (ix2 0 l) = x3 (ix2 0 l) := by
    have h : ∀ v : Vec Ideal S1x128 .f32, k0_pay6 v (ix2 0 l) = v (ix2 0 l) := fun v => by pointwise [k0_pay6]
    refine (h _).trans ?_
    rw [read_whole]
    refine congrArg x3 (funext fun a => ?_)
    fin_cases a <;> refine Fin.ext ?_
    · rfl
    · show 0 + 1 * l.val = l.val; omega
  have hw : ∀ n : Fin 32, kernelRun0_A.sl.r (F := Ideal) c arg4 harg4 x2 (ix2 n l) = filter x2 l n.val := fun n => by
    rw [filter, dif_pos n.isLt]
    have h : ∀ v : Vec Ideal S32x128 .f32, k0_pay5 v (ix2 n l) = v (ix2 n l) := fun v => by pointwise [k0_pay5]
    refine (h _).trans ?_
    rw [read_whole]
    refine congrArg x2 (funext fun a => ?_)
    fin_cases a <;> refine Fin.ext ?_
    · show 0 + 1 * n.val = n.val; omega
    · show 0 + 1 * l.val = l.val; omega
  refine (chunk_apply _ _ _ _ _ _ _ _ _ _ z s l (fun n => padded (rows x0 x1 l) (64 * k.val + n)) (filter x2 l)
    (fun n => ?_) (fun n => ?_) (fun n => ?_) (fun n => ?_) (fun n => ?_) (fun n => ?_) (fun n => ?_) (fun n => ?_)
    hw).trans ?_
  iterate 8
    · refine (window_apply c arg2 harg2 arg3 harg3 arg8 x0 x1 _ _ _ n l).trans ?_
      simp only [Nat.add_assoc]
  unfold conv
  rw [hb]
  simp only [Nat.add_assoc]

end

end Cert.Proof.Conv

end
-- ==== Proof.ConvStores.lean ====
/-
  The convolution kernel's output buffers after the body: its 32 stores into the first are the chunks of the output
  block, and its store into the second is the last rows of the scratch.
-/
module

public import proofs.«01_k».proof.Proof.ConvBlock

@[expose] public section

set_option maxRecDepth 16384

noncomputable section

namespace Cert.Proof.Conv

open Idealize.ShloMosaic Idealize.ShloMosaic.TcCoe Idealize.SL.Sem
open Cert.Kernel5Ideal Cert.Kernel5Ideal.Gen

variable (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S32x128 .f32) (harg4 : arg4.IsWhole)
  (arg5 : Memref sig .tc .vmem S1x128 .f32) (harg5 : arg5.IsWhole)
  (arg6 : Memref sig .tc .vmem S1x2048x128 .f32) (harg6 : arg6.IsWhole)
  (arg7 : Memref sig .tc .vmem S1x32x128 .f32) (harg7 : arg7.IsWhole)
  (arg8 : Memref sig .tc .vmem S2080x128 .f32) (harg8 : arg8.IsWhole)
  (x0 x1 : Vec Ideal S1x2048x128 .bf16) (x2 : Vec Ideal S32x128 .f32) (x3 : Vec Ideal S1x128 .f32)

/-- The body's stores into the first output, the last first. -/
theorem stores :
    (kernelRun0_A (F := Ideal) c i arg2 harg2 arg3 harg3 arg4 harg4 arg5 harg5 arg6 harg6 arg7 harg7 arg8 harg8 x0 x1 x2 x3).1
      = ([31, 30, 29, 28, 27, 26, 25, 24, 23, 22, 21, 20, 19, 18, 17, 16, 15, 14, 13, 12, 11, 10, 9, 8, 7, 6, 5, 4, 3, 2,
          1, 0] : List (Fin 32)).map
        (piece c arg2 harg2 arg3 harg3 arg4 harg4 arg5 harg5 arg8 x0 x1 x2 x3) := by
  unfold kernelRun0_A
  rfl

/-- The first output buffer after the body. -/
theorem out4_apply (y : S1x2048x128.Idx) :
    out0_A_4 (F := Ideal) c i arg2 harg2 arg3 harg3 arg4 harg4 arg5 harg5 arg6 harg6 arg7 harg7 arg8 harg8 x0 x1 x2 x3 y
      = out x0 x1 x2 x3 y := by
  refine View.read_writes_apply_of_pieces (Val := Elt Ideal) VO0_4 _ (out x0 x1 x2 x3) _ (fun p hp => ?_) y
    (cover0_A_4 (F := Ideal) c i arg2 harg2 arg3 harg3 arg4 harg4 arg5 harg5 arg6 harg6 arg7 harg7 arg8 harg8 x0 x1 x2 x3 y)
  rw [stores] at hp
  obtain ⟨k, -, rfl⟩ := List.mem_map.mp hp
  exact piece_apply c arg2 harg2 arg3 harg3 arg4 harg4 arg5 harg5 arg8 x0 x1 x2 x3 k

/-- The second output block: the last 32 gated rows. -/
def last (y : S1x32x128.Idx) : EReal := rows x0 x1 (y 2) (2016 + (y 1).val)

/-- The body's store into the second output. -/
theorem store :
    (kernelRun0_A (F := Ideal) c i arg2 harg2 arg3 harg3 arg4 harg4 arg5 harg5 arg6 harg6 arg7 harg7 arg8 harg8 x0 x1 x2 x3).2.1
      = [⟨Rect.unit (s := S1x32x128) ![0, 0, 0] S1x32x128.size inb_S1x32x128_S1x32x128_0_0_0,
          k0_pay4 (F := Ideal) (window c arg2 harg2 arg3 harg3 arg8 x0 x1 32 2048 (inside _ _ (by decide)))⟩] := by
  unfold kernelRun0_A
  rfl

/-- The second output buffer after the body. -/
theorem out5_apply (y : S1x32x128.Idx) :
    out0_A_5 (F := Ideal) c i arg2 harg2 arg3 harg3 arg4 harg4 arg5 harg5 arg6 harg6 arg7 harg7 arg8 harg8 x0 x1 x2 x3 y
      = last x0 x1 y := by
  refine View.read_writes_apply_of_pieces (Val := Elt Ideal) VO0_5 _ (last x0 x1) _ (fun p hp => ?_) y
    (cover0_A_5 (F := Ideal) c i arg2 harg2 arg3 harg3 arg4 harg4 arg5 harg5 arg6 harg6 arg7 harg7 arg8 harg8 x0 x1 x2 x3 y)
  rw [store] at hp
  obtain rfl := List.mem_singleton.mp hp
  intro x
  obtain ⟨z, s, l, rfl⟩ : ∃ (z : Fin 1) (s : Fin 32) (l : Fin 128), x = ix3 z s l :=
    ⟨x 0, x 1, x 2, by funext a; fin_cases a <;> rfl⟩
  have e : (Rect.unit (s := S1x32x128) ![0, 0, 0] S1x32x128.size inb_S1x32x128_S1x32x128_0_0_0).emb (ix3 z s l)
      = (ix3 z s l : S1x32x128.Idx) := by
    funext a; fin_cases a <;> refine Fin.ext ?_
    · show 0 + 1 * z.val = z.val; omega
    · show 0 + 1 * s.val = s.val; omega
    · show 0 + 1 * l.val = l.val; omega
  have h : ∀ v : Vec Ideal S32x128 .f32, k0_pay4 (F := Ideal) v (ix3 z s l) = v (ix2 s l) := fun v => by pointwise [k0_pay4]
  refine (h _).trans ((window_apply c arg2 harg2 arg3 harg3 arg8 x0 x1 32 2048 _ s l).trans ?_)
  refine Eq.trans ?_ (congrArg (last x0 x1) e).symm
  show padded _ _ = rows x0 x1 l (2016 + s.val)
  rw [padded, if_neg (by omega)]
  congr 1
  omega

end Cert.Proof.Conv

end
-- ==== Proof.ConvReference.lean ====
/-
  The reference's convolution, element by element: a fold over the 31 taps, each a shifted slice of the padded gated
  rows times a row of the filter.
-/
module

public import proofs.«01_k».proof.Proof.ConvBlock
public import proofs.«01_k».proof.Proof.Gen.Reference5Ideal.Read

@[expose] public section

set_option maxRecDepth 16384

noncomputable section

namespace Cert.Proof.Conv

open Idealize.ShloMosaic Idealize.ShloMosaic.Host
open Cert.Reference5Ideal Cert.Reference5Ideal.Gen Cert.Reference5Ideal.Read

/-- The filter's rows and the padded rows' shifts are slices. -/
theorem refSlices : ∀ w : Fin 31, S31x1024.Slices ![w.val, 0] S1x1024 ∧ S8x2078x1024.Slices ![0, w.val, 0] S8x2048x1024 := by
  decide

/-- Tap `w` of the reference. -/
def refTap (p : Vec Ideal S8x2078x1024 .f32) (cw : Vec Ideal S31x1024 .f32) (w : ℕ) (hw : w < 31) : FVec Ideal S8x2048x1024 .f32 :=
  mulf (extractStridedSlice S8x2048x1024 ![0, w, 0] p (refSlices ⟨w, hw⟩).2)
    (broadcastInDim S8x2048x1024 ![0, 1, 2] bcast_S1x1x1024_S8x2048x1024_0_1_2
      (broadcastInDim S1x1x1024 ![2] bcast_S1024_S1x1x1024_2
        (shapeCast _ (extractStridedSlice S1x1024 ![w, 0] cw (refSlices ⟨w, hw⟩).1) shapeCasts_S1x1024_S1024)))

/-- The sum of the first `n` taps. -/
def refSum (p : Vec Ideal S8x2078x1024 .f32) (cw : Vec Ideal S31x1024 .f32) : (n : ℕ) → n ≤ 31 → FVec Ideal S8x2048x1024 .f32
  | 0, _ => val_main_v20 (F := Ideal)
  | n + 1, h => addf (refSum p cw n (by omega)) (refTap p cw n (by omega))

theorem refTap_apply (p : Vec Ideal S8x2078x1024 .f32) (cw : Vec Ideal S31x1024 .f32) (w : ℕ) (hw : w < 31)
    (b : Fin 8) (n : Fin 2048) (j : Fin 1024) :
    refTap p cw w hw (ix3 b n j) = p (ix3 b ⟨w + n.val, by omega⟩ j) * cw (ix2 ⟨w, hw⟩ j) := by
  pointwise [refTap]

theorem refSum_apply (p : Vec Ideal S8x2078x1024 .f32) (cw : Vec Ideal S31x1024 .f32) (b : Fin 8) (n : Fin 2048)
    (j : Fin 1024) (q k : ℕ → EReal) (hq : ∀ r : Fin 2078, p (ix3 b r j) = q r.val)
    (hk : ∀ w : Fin 31, cw (ix2 w j) = k w.val) :
    ∀ (m : ℕ) (h : m ≤ 31), refSum p cw m h (ix3 b n j) = ∑ w ∈ Finset.range m, q (w + n.val) * k w
  | 0, _ => by
    show val_main_v20 (F := Ideal) (ix3 b n j) = 0
    pointwise [val_main_v20, val_main_cst_2]
  | m + 1, h => by
    show (refSum p cw m _ (ix3 b n j) + refTap p cw m _ (ix3 b n j) : EReal) = _
    rw [refSum_apply p cw b n j q k hq hk m, refTap_apply, hq, hk, Finset.sum_range_succ]

/-- The reference's convolution is the fold. -/
theorem reference_sum (x0 : Vec Ideal S16384x9216 .bf16) (x1 : Vec Ideal S31x1024 .f32) :
    val_main_v231 (F := Ideal) x0 x1 = refSum (val_main_v13 x0) x1 31 le_rfl := rfl

/-- A gated row of the reference: row `n` of sequence `b`, lane `j`. -/
def gated (x0 : Vec Ideal S16384x9216 .bf16) (b : Fin 8) (j : Fin 1024) (n : ℕ) : EReal :=
  if h : n < 2048 then gate (x0 (ix2 ⟨b.val * 2048 + n, by omega⟩ ⟨6144 + j.val, by omega⟩))
    (x0 (ix2 ⟨b.val * 2048 + n, by omega⟩ ⟨7168 + j.val, by omega⟩)) else 0

theorem v11_apply (x0 : Vec Ideal S16384x9216 .bf16) (b : Fin 8) (n : Fin 2048) (j : Fin 1024) :
    val_main_v11 (F := Ideal) x0 (ix3 b n j) = gated x0 b j n.val := by
  rw [gated, dif_pos n.isLt]
  pointwise [val_main_v11, val_main_v10, val_main_v9, val_main_v8, val_main_v7, val_main_v6, val_main_v5, val_main_v4,
    val_main_v3, val_main_v2, val_main_v1, val_main_v0, val_main_cst, val_main_cst_0, gate]
  rfl

theorem v13_apply (x0 : Vec Ideal S16384x9216 .bf16) (b : Fin 8) (r : Fin 2078) (j : Fin 1024) :
    val_main_v13 (F := Ideal) x0 (ix3 b r j) = padded (gated x0 b j) (r.val + 2) := by
  unfold padded
  by_cases h : r.val < 30
  · rw [if_pos (by omega)]
    refine (concatenate_pair_apply_left 1 (val_main_v12 (F := Ideal)) (val_main_v11 (F := Ideal) x0) _ (ix3 b r j) rfl
      (ix3 b ⟨r.val, h⟩ j) fun a => by fin_cases a <;> rfl).trans ?_
    pointwise [val_main_v12, val_main_cst_1]
  · rw [if_neg (by omega)]
    refine (concatenate_pair_apply_right 1 (val_main_v12 (F := Ideal)) (val_main_v11 (F := Ideal) x0) _ (ix3 b r j) rfl rfl
      (ix3 b ⟨r.val - 30, by omega⟩ j) (fun a ha => ?_) (by show r.val - 30 + 30 = r.val; omega)).trans ?_
    · fin_cases a
      · rfl
      · exact absurd rfl ha
      · rfl
    · rw [v11_apply]
      congr 1

/-- The first result of the reference. -/
theorem reference4_apply (x0 : Vec Ideal S16384x9216 .bf16) (x1 : Vec Ideal S31x1024 .f32) (x2 : Vec Ideal S1024 .f32)
    (k : ℕ → EReal) (b : Fin 8) (n : Fin 2048) (j : Fin 1024) (hk : ∀ w : Fin 31, x1 (ix2 w j) = k w.val) :
    val_main_v234 (F := Ideal) x0 x1 x2 (ix3 b n j) = conv (gated x0 b j) k (x2 (ix1 j)) n.val := by
  have e : val_main_v233 (F := Ideal) x2 (ix3 b n j) = x2 (ix1 j) := by
    pointwise [val_main_v233, val_main_v232]
  show (val_main_v231 (F := Ideal) x0 x1 (ix3 b n j) + val_main_v233 (F := Ideal) x2 (ix3 b n j) : EReal) = _
  rw [reference_sum, refSum_apply _ _ b n j (fun r => padded (gated x0 b j) (r + 2)) k (fun r => v13_apply x0 b r j) hk, e]
  unfold conv
  refine congrArg (· + x2 (ix1 j)) (Finset.sum_congr rfl fun w _ => ?_)
  rw [show w + n.val + 2 = n.val + 2 + w by omega]

/-- The second result of the reference. -/
theorem reference5_apply (x0 : Vec Ideal S16384x9216 .bf16) (b : Fin 8) (n : Fin 32) (j : Fin 1024) :
    val_main_v235 (F := Ideal) x0 (ix3 b n j) = gated x0 b j (2016 + n.val) := by
  have e : val_main_v235 (F := Ideal) x0 (ix3 b n j) = val_main_v11 x0 (ix3 b ⟨2016 + n.val, by omega⟩ j) := by
    pointwise [val_main_v235]
  rw [e, v11_apply]

end Cert.Proof.Conv

end
-- ==== Proof.ConvValue.lean ====
/-
  The convolution kernel's result arrays: after the run they are the reference's terms of the arguments. Point `t`
  of the grid computes lanes `128 * (t % 8)` on of sequence `t / 8`.
-/
module

public import proofs.«01_k».proof.Proof.ConvStores
public import proofs.«01_k».proof.Proof.ConvReference

@[expose] public section

set_option maxRecDepth 16384

noncomputable section

namespace Cert.Proof.Conv

open Idealize.ShloMosaic Idealize.ShloMosaic.TcCoe Idealize.SL.Sem
open Cert.Kernel5Ideal Cert.Kernel5Ideal.Gen

variable (m : (ℓ : Loc nD τ sig) → Buf (Elt Ideal) ℓ)

/-- The windows' block indices at a grid point. -/
theorem idx : ∀ t : Fin cfg0.N, win0_0.index t = ![t.val / 8, 0, 48 + t.val % 8] ∧ win0_1.index t = ![t.val / 8, 0, 56 + t.val % 8]
    ∧ win0_2.index t = ![0, t.val % 8] ∧ win0_3.index t = ![0, t.val % 8] ∧ win0_4.index t = ![t.val / 8, 0, t.val % 8]
    ∧ win0_5.index t = ![t.val / 8, 0, t.val % 8] ∧ t.val < 64 :=
  (by decide +kernel : ∀ t : Fin grid0.N, _)

/-- The gated rows of point `t`'s block are those of the argument. -/
theorem rows_eq (c : Dev nD) (t : Fin cfg0.N) (l : Fin 128) (hb : t.val / 8 < 8) (hj : t.val % 8 * 128 + l.val < 1024) (n : ℕ) :
    rows (iblk m c 0 t) (iblk m c 1 t) l n
      = gated (m ((c : Thread nD τ).loc main_arg0)) ⟨t.val / 8, hb⟩ ⟨t.val % 8 * 128 + l.val, hj⟩ n := by
  unfold rows gated
  by_cases h : n < 2048
  · rw [dif_pos h, dif_pos h]
    congr 1
    · blk_ext! [iblk, V, idx t]
    · blk_ext! [iblk, V, idx t]
  · rw [dif_neg h, dif_neg h]

theorem filter_eq (c : Dev nD) (t : Fin cfg0.N) (l : Fin 128) (hj : t.val % 8 * 128 + l.val < 1024) (w : ℕ) (hw : w < 31) :
    filter (iblk m c 2 t) l w = m ((c : Thread nD τ).loc main_arg1) (ix2 ⟨w, hw⟩ ⟨t.val % 8 * 128 + l.val, hj⟩) := by
  unfold filter
  rw [dif_pos (by omega)]
  have e : (win0_2.blk t).view.emb (ix2 (⟨w, by omega⟩ : Fin 32) l)
      = (ix2 (⟨w, by omega⟩ : Fin 32) (⟨t.val % 8 * 128 + l.val, hj⟩ : Fin 1024) : S32x1024.Idx) := by
    blk_ext [idx t]
  blk_simp [iblk, V, idx t]
  refine (congrArg (StableHlo.after hostOps0 (fun b => m (c, b)) (Proc.tc.devRef main_v1)) e).trans ?_
  entry_read
  pointwise
  rw [dif_pos hw]

theorem bias_eq (c : Dev nD) (t : Fin cfg0.N) (l : Fin 128) (hj : t.val % 8 * 128 + l.val < 1024) :
    iblk m c 3 t (ix2 0 l) = m ((c : Thread nD τ).loc main_arg2) (ix1 ⟨t.val % 8 * 128 + l.val, hj⟩) := by
  blk_ext! [iblk, V, idx t]

/-- The first output buffer after point `t`. -/
theorem after4_apply (c : Dev nD) (t : Fin cfg0.N) (y : S1x2048x128.Idx) :
    (dats m 0 c).after 4 t y = out (iblk m c 0 t) (iblk m c 1 t) (iblk m c 2 t) (iblk m c 3 t) y := by
  rw [after0_4]; unfold outsAt0; dsimp only
  exact out4_apply c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (iblk m c 0 t) (iblk m c 1 t) (iblk m c 2 t)
    (iblk m c 3 t) y

/-- The second output buffer after point `t`. -/
theorem after5_apply (c : Dev nD) (t : Fin cfg0.N) (y : S1x32x128.Idx) :
    (dats m 0 c).after 5 t y = last (iblk m c 0 t) (iblk m c 1 t) y := by
  rw [after0_5]; unfold outsAt0; dsimp only
  exact out5_apply c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (iblk m c 0 t) (iblk m c 1 t) (iblk m c 2 t)
    (iblk m c 3 t) y

theorem conv_congr {u u' k k' : ℕ → EReal} {b b' : EReal} (hu : u = u') (hk : ∀ w < 31, k w = k' w) (hb : b = b') (n : ℕ) :
    conv u k b n = conv u' k' b' n := by
  subst hu hb
  unfold conv
  exact congrArg (· + b) (Finset.sum_congr rfl fun w hw => by rw [hk w (Finset.mem_range.mp hw)])

/-- The reference's first result over the kernel's argument arrays. -/
abbrev result4 (c : Dev nD) : Vec Ideal S8x2048x1024 .f32 :=
  Cert.Reference5Ideal.Read.val_main_v234 (F := Ideal) (m ((c : Thread nD τ).loc main_arg0))
    (m ((c : Thread nD τ).loc main_arg1)) (m ((c : Thread nD τ).loc main_arg2))

/-- The reference's second result over the kernel's argument arrays. -/
abbrev result5 (c : Dev nD) : Vec Ideal S8x32x1024 .f32 :=
  Cert.Reference5Ideal.Read.val_main_v235 (F := Ideal) (m ((c : Thread nD τ).loc main_arg0))

/-- The first result array ends at the reference's. -/
theorem final4 (c : Dev nD) : (dats m 0 c).arrAt 4 (cfgs 0).N = result4 m c := by
  refine (dats m 0 c).arrAt_eq_of_covers 4 _ (by decide +kernel) fun t _ y => ?_
  blk_simp
  obtain ⟨z, n, l, rfl⟩ : ∃ (z : Fin 1) (n : Fin 2048) (l : Fin 128), y = ix3 z n l :=
    ⟨y 0, y 1, y 2, by funext a; fin_cases a <;> rfl⟩
  have ht := (idx t).2.2.2.2.2.2
  have hb : t.val / 8 < 8 := by omega
  have hj : t.val % 8 * 128 + l.val < 1024 := by omega
  refine (after4_apply m c t (ix3 z n l)).trans ?_
  refine Eq.trans ?_ (congrArg (result4 m c) (a₁ := ix3 ⟨t.val / 8, hb⟩ n ⟨t.val % 8 * 128 + l.val, hj⟩) ?_)
  · refine Eq.trans ?_ (reference4_apply _ _ _
      (fun w => if h : w < 31 then m ((c : Thread nD τ).loc main_arg1) (ix2 ⟨w, h⟩ ⟨t.val % 8 * 128 + l.val, hj⟩) else 0)
      ⟨t.val / 8, hb⟩ n ⟨t.val % 8 * 128 + l.val, hj⟩ fun w => by rw [dif_pos w.isLt]).symm
    exact conv_congr (funext fun r => rows_eq m c t l hb hj r)
      (fun w hw => by rw [dif_pos hw]; exact filter_eq m c t l hj w hw) (bias_eq m c t l hj) n.val
  · blk_ext [idx t]

/-- So does the second. -/
theorem final5 (c : Dev nD) : (dats m 0 c).arrAt 5 (cfgs 0).N = result5 m c := by
  refine (dats m 0 c).arrAt_eq_of_covers 5 _ (by decide +kernel) fun t _ y => ?_
  blk_simp
  obtain ⟨z, n, l, rfl⟩ : ∃ (z : Fin 1) (n : Fin 32) (l : Fin 128), y = ix3 z n l :=
    ⟨y 0, y 1, y 2, by funext a; fin_cases a <;> rfl⟩
  have ht := (idx t).2.2.2.2.2.2
  have hb : t.val / 8 < 8 := by omega
  have hj : t.val % 8 * 128 + l.val < 1024 := by omega
  refine (after5_apply m c t (ix3 z n l)).trans ?_
  refine Eq.trans ?_ (congrArg (result5 m c) (a₁ := ix3 ⟨t.val / 8, hb⟩ n ⟨t.val % 8 * 128 + l.val, hj⟩) ?_)
  · refine Eq.trans ?_ (reference5_apply _ ⟨t.val / 8, hb⟩ n ⟨t.val % 8 * 128 + l.val, hj⟩).symm
    exact rows_eq m c t l hb hj (2016 + n.val)
  · blk_ext [idx t]

end Cert.Proof.Conv

end
-- ==== Proof.ConvClaims.lean ====
/-
  The claims about the prompt's convolution: its frames, and its equality with the reference over the extended reals.
-/
module

public import proofs.«01_k».proof.Defs
public import proofs.«01_k».proof.Proof.ConvValue
public import proofs.«01_k».proof.Proof.Gen.Kernel5.Frame
public import Idealize.ShloMosaic.Lib.Quiescent

@[expose] public section

noncomputable section

namespace Cert.Proof.Conv

open Idealize.ShloMosaic Idealize.ShloMosaic.TcCoe Idealize.SL.Sem

/-- The kernel leaves its arguments unchanged. -/
theorem frame_kernel : Cert.quiescent_Kernel5 := fun m ρ _ => Cert.Kernel5.Gen.frame m ρ

/-- So does its idealization. -/
theorem frame_kernelIdeal : Cert.quiescent_Kernel5Ideal := fun m ρ _ => Cert.Kernel5Ideal.Gen.frame m ρ

/-- So does the reference. -/
theorem frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Kernel and reference end with the same results. -/
theorem algebraic : Cert.algebraic_Kernel5Ideal_Reference5Ideal := by
  intro m g m' g' _ hagree
  refine ⟨fun c => result4 m c, fun c => result5 m c, ?_, ?_⟩
  · exact (θ_run Cert.Kernel5Ideal.defs _ _).mono
      (fun _ h c => ⟨(h c).1.trans (final4 m c), (h c).2.1.trans (final5 m c), (h c).2.2⟩)
      (Cert.Kernel5Ideal.Value.run_blocks m g)
  · refine (θ_run Cert.Reference5Ideal.defs _ _).mono
      (fun _ h c => ⟨(h c).1.trans ?_, (h c).2.1.trans ?_, (h c).2.2⟩)
      (Cert.Reference5Ideal.Value.run (F := Ideal) m' g')
    · obtain ⟨h0, h1, h2⟩ := hagree c
      refine (Cert.Reference5Ideal.Read.val_main_v234_eq (StableHlo.launchContents m' c)).trans ?_
      show Cert.Reference5Ideal.Read.val_main_v234 _ _ _ = Cert.Reference5Ideal.Read.val_main_v234 _ _ _
      rw [StableHlo.launchContents_devRef, StableHlo.launchContents_devRef, StableHlo.launchContents_devRef, h0, h1, h2]
    · obtain ⟨h0, h1, h2⟩ := hagree c
      refine (Cert.Reference5Ideal.Read.val_main_v235_eq (StableHlo.launchContents m' c)).trans ?_
      show Cert.Reference5Ideal.Read.val_main_v235 _ = Cert.Reference5Ideal.Read.val_main_v235 _
      rw [StableHlo.launchContents_devRef, h0]

end Cert.Proof.Conv

end
-- ==== Proof.ConvSampleRun.lean ====
/-
  One run of the body of the sample's convolution: from whole buffers it ends with its eight strided stores
  into the first output and its thirty stores into the second, and the inputs as they were.
-/
module

public import proofs.«01_k».proof.Proof.Gen.Kernel6Ideal.Frame
public import proofs.«01_k».proof.Proof.Gen.Kernel6Ideal.Skeleton

@[expose] public section

set_option maxRecDepth 16384

noncomputable section

namespace Cert.Proof.ConvSample

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The stores a run makes into the two outputs and into the scratch, the last first, and the run itself. -/
def run (c : Dev nD) (i : grid0.Coords)
  (a0 : Memref sig .tc .vmem S1024x128 .bf16) (w0 : a0.IsWhole)
  (a1 : Memref sig .tc .vmem S1024x128 .bf16) (w1 : a1.IsWhole)
  (a2 : Memref sig .tc .vmem S30x128x128 .f32) (w2 : a2.IsWhole)
  (a3 : Memref sig .tc .vmem S32x128 .f32) (w3 : a3.IsWhole)
  (a4 : Memref sig .tc .vmem S1x128 .f32) (w4 : a4.IsWhole)
  (a5 : Memref sig .tc .vmem S1024x128 .f32) (w5 : a5.IsWhole)
  (a6 : Memref sig .tc .vmem S30x128x128 .f32) (w6 : a6.IsWhole)
  (a7 : Memref sig .tc .vmem S1024x128 .f32) (w7 : a7.IsWhole)
    (x0 : Vec F S1024x128 .bf16) (x1 : Vec F S1024x128 .bf16) (x2 : Vec F S30x128x128 .f32) (x3 : Vec F S32x128 .f32) (x4 : Vec F S1x128 .f32) :
    Σ' (L5 : List (View.Piece (Elt F) S1024x128 .f32)), Σ' (L6 : List (View.Piece (Elt F) S30x128x128 .f32)), { LS : List (View.Piece (Elt F) S1024x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ (∃ d, owns (c : Thread nD τ) a7 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L5) ∗ (∃ f, a6.view.loc (c : Thread nD τ) ↦[a6.view.set]{fullShare} a6.view.writes (Elt F) f L6) ∗ (∃ f, a7.view.loc (c : Thread nD τ) ↦[a7.view.set]{fullShare} a7.view.writes (Elt F) f LS)) -∗ K ⟨⟩))
          ⊢ wp frame (wpE (defs₀ (F := F)) Variants.none c none) E (cc0_conv_sample i a0 w0 a1 w1 a2 w2 a3 w3 a4 w4 a5 w5 a6 w6 a7 w7) K } := by
  refine ⟨?_, ?_, ?_, fun E K => ?runs⟩
  case runs =>
    simp only [cc0_conv_sample_eq_skeleton]; unfold cc0_conv_sample_skel
    simp only [k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := w0.eq_unread hf0; obtain rfl := w1.eq_unread hf1; obtain rfl := w2.eq_unread hf2
    obtain rfl := w3.eq_unread hf3; obtain rfl := w4.eq_unread hf4
    sl_exec
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]; · iexists _; iexact H5
    isplitl [H6]; · iexists _; iexact H6
    iexists _; iexact H7

/-- Store `k` into the first output has its box in range. -/
theorem band_inb : ∀ (k : Fin 8) (a : Fin 2),
    S128x128.size a = 0 ∨ (![k.val, 0] : Fin 2 → ℕ) a + (![8, 1] : Fin 2 → ℕ) a * (S128x128.size a - 1) < S1024x128.size a := by
  decide

/-- The box of store `k` into the first output: rows `k`, `k + 8`, `k + 16`, and so on. -/
abbrev band (k : Fin 8) : Rect S1024x128 := ⟨⟨![k.val, 0], S128x128.size, ![8, 1], band_inb k⟩, spos_8_1⟩

/-- Row `y` lies in the box of its remainder by eight. -/
theorem mem_band (y : S1024x128.Idx) : y ∈ (band ⟨(y 0).val % 8, by omega⟩).set := by
  have h0 : (y 0).val < 1024 := (y 0).isLt
  have h1 : (y 1).val < 128 := (y 1).isLt
  refine (LoadRect.mem_set _).mpr fun a => ?_
  fin_cases a
  · exact ⟨(y 0).val / 8, show (y 0).val / 8 < 128 by omega, show (y 0).val = (y 0).val % 8 + 8 * ((y 0).val / 8) by omega⟩
  · exact ⟨(y 1).val, h1, show (y 1).val = 0 + 1 * (y 1).val by omega⟩

/-- The eight boxes, the last first, are the whole output. -/
theorem bands_cover (L : List (View.Piece (Elt F) S1024x128 .f32))
    (h : L.map Sigma.fst = [7, 6, 5, 4, 3, 2, 1, 0].map band) (y : S1024x128.Idx) : ∃ pc ∈ L, y ∈ pc.1.set := by
  have hk : band ⟨(y 0).val % 8, by omega⟩ ∈ L.map Sigma.fst := by
    rw [h]
    exact List.mem_map_of_mem ((by decide : ∀ k : Fin 8, k ∈ ([7, 6, 5, 4, 3, 2, 1, 0] : List (Fin 8))) _)
  obtain ⟨pc, hpc, e⟩ := List.mem_map.mp hk
  exact ⟨pc, hpc, e ▸ mem_band y⟩

end Cert.Proof.ConvSample

end
-- ==== Proof.ConvSampleFrame.lean ====
/-
  The sample's convolution from launch to end: every point starts from its blocks and leaves the stores of
  its run in the two outputs; all runs end, with the arguments as they were.
-/
module

public import proofs.«01_k».proof.Proof.ConvSampleRun
public import Idealize.ShloMosaic.Lib.Claim

@[expose] public section

set_option maxRecDepth 16384

noncomputable section

namespace Cert.Proof.ConvSample

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The buffers a point uses -/

abbrev st0 (t : Fin cfg0.N) : Memref sig .tc .vmem S1024x128 .bf16 := win0_0.stage (cfg0.slots t 0)
abbrev wh0 (t : Fin cfg0.N) : (st0 t).IsWhole := hstage0_0 ((cfg0.slots t 0).cast nbuf0_0)
abbrev st1 (t : Fin cfg0.N) : Memref sig .tc .vmem S1024x128 .bf16 := win0_1.stage (cfg0.slots t 1)
abbrev wh1 (t : Fin cfg0.N) : (st1 t).IsWhole := hstage0_1 ((cfg0.slots t 1).cast nbuf0_1)
abbrev st2 (t : Fin cfg0.N) : Memref sig .tc .vmem S30x128x128 .f32 := win0_2.stage (cfg0.slots t 2)
abbrev wh2 (t : Fin cfg0.N) : (st2 t).IsWhole := hstage0_2 ((cfg0.slots t 2).cast nbuf0_2)
abbrev st3 (t : Fin cfg0.N) : Memref sig .tc .vmem S32x128 .f32 := win0_3.stage (cfg0.slots t 3)
abbrev wh3 (t : Fin cfg0.N) : (st3 t).IsWhole := hstage0_3 ((cfg0.slots t 3).cast nbuf0_3)
abbrev st4 (t : Fin cfg0.N) : Memref sig .tc .vmem S1x128 .f32 := win0_4.stage (cfg0.slots t 4)
abbrev wh4 (t : Fin cfg0.N) : (st4 t).IsWhole := hstage0_4 ((cfg0.slots t 4).cast nbuf0_4)
abbrev st5 (t : Fin cfg0.N) : Memref sig .tc .vmem S1024x128 .f32 := win0_5.stage (cfg0.slots t 5)
abbrev wh5 (t : Fin cfg0.N) : (st5 t).IsWhole := hstage0_5 ((cfg0.slots t 5).cast nbuf0_5)
abbrev st6 (t : Fin cfg0.N) : Memref sig .tc .vmem S30x128x128 .f32 := win0_6.stage (cfg0.slots t 6)
abbrev wh6 (t : Fin cfg0.N) : (st6 t).IsWhole := hstage0_6 ((cfg0.slots t 6).cast nbuf0_6)

/-- The scratch buffer: the gated rows. -/
abbrev scratch : Memref sig .tc .vmem S1024x128 .f32 := Memref.whole cc0_scratch0

/-- The launch invariant, with the scratch buffer owned at some contents. -/
theorem launch_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

variable (m : (ℓ : Loc nD τ sig) → Buf (Elt F) ℓ) (ρ : Dev nD → PrngReg)

/-! ## What a point stores -/

/-- The stores of point `t` into the first output. -/
def rows (c : Dev nD) (t : Fin cfg0.N) : List (View.Piece (Elt F) S1024x128 .f32) :=
  (run c (grid0.coords t) (st0 t) (wh0 t) (st1 t) (wh1 t) (st2 t) (wh2 t) (st3 t) (wh3 t) (st4 t) (wh4 t) (st5 t) (wh5 t) (st6 t) (wh6 t) scratch (Memref.isWhole_whole _) (iblk m c 0 t) (iblk m c 1 t) (iblk m c 2 t) (iblk m c 3 t) (iblk m c 4 t)).1

/-- The stores of point `t` into the second output. -/
def slabs (c : Dev nD) (t : Fin cfg0.N) : List (View.Piece (Elt F) S30x128x128 .f32) :=
  (run c (grid0.coords t) (st0 t) (wh0 t) (st1 t) (wh1 t) (st2 t) (wh2 t) (st3 t) (wh3 t) (st4 t) (wh4 t) (st5 t) (wh5 t) (st6 t) (wh6 t) scratch (Memref.isWhole_whole _) (iblk m c 0 t) (iblk m c 1 t) (iblk m c 2 t) (iblk m c 3 t) (iblk m c 4 t)).2.1

theorem rows_cover (c : Dev nD) (t : Fin cfg0.N) : ∀ y : S1024x128.Idx, ∃ pc ∈ rows m c t, y ∈ pc.1.set :=
  bands_cover _ rfl

theorem slabs_cover (c : Dev nD) (t : Fin cfg0.N) (y : S30x128x128.Idx) : ∃ pc ∈ slabs m c t, y ∈ pc.1.set :=
  View.cover_of_tiledL (slabs m c t) S1x128x128.size (by sl_kernel_rfl) y

/-- A buffer of each output to state its contents through. -/
abbrev view5 : View sig .tc .vmem S1024x128 .f32 := (Memref.whole cc0_stg5_0 : Memref sig .tc .vmem S1024x128 .f32).view
abbrev view6 : View sig .tc .vmem S30x128x128 .f32 := (Memref.whole cc0_stg6_0 : Memref sig .tc .vmem S30x128x128 .f32).view

/-- What point `t` leaves in the first output, -/
def left5 (c : Dev nD) (t : Fin cfg0.N) : Vec F S1024x128 .f32 :=
  view5.read (Elt F) (view5.writes (Elt F) view5.junk (rows m c t))

/-- and in the second. -/
def left6 (c : Dev nD) (t : Fin cfg0.N) : Vec F S30x128x128 .f32 :=
  view6.read (Elt F) (view6.writes (Elt F) view6.junk (slabs m c t))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 m c t
    | ⟨6, _⟩ => left6 m c t
  Φ _ := Pipeline.ΦA spec0 c
  q w := Pipeline.shareOf spec0 w
  owed _ := 0

theorem start_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = left5 m c t := by dsimp only [dats]
theorem after6 (c : Dev nD) (t : Fin cfg0.N) : (dats m 0 c).after 6 t = left6 m c t := by dsimp only [dats]

theorem before0 (c : Dev nD) (t : Fin cfg0.N) (d) : (dats m 0 c).before 0 t d = iblk m c 0 t :=
  before0_0_of m (dats m 0 c) (start_eq m c 0) (after0 m c) t d
theorem before1 (c : Dev nD) (t : Fin cfg0.N) (d) : (dats m 0 c).before 1 t d = iblk m c 1 t :=
  before0_1_of m (dats m 0 c) (start_eq m c 1) (after1 m c) t d
theorem before2 (c : Dev nD) (t : Fin cfg0.N) (d) : (dats m 0 c).before 2 t d = iblk m c 2 t :=
  before0_2_of m (dats m 0 c) (start_eq m c 2) (after2 m c) t d
theorem before3 (c : Dev nD) (t : Fin cfg0.N) (d) : (dats m 0 c).before 3 t d = iblk m c 3 t :=
  before0_3_of m (dats m 0 c) (start_eq m c 3) (after3 m c) t d
theorem before4 (c : Dev nD) (t : Fin cfg0.N) (d) : (dats m 0 c).before 4 t d = iblk m c 4 t :=
  before0_4_of m (dats m 0 c) (start_eq m c 4) (after4 m c) t d

/-! ## A point -/

/-- What a point is entered with, -/
def enter (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- and left with. -/
def leave (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

theorem point (c : Dev nD) (t : Fin cfg0.N) :
    enter m c t ⊢ wp frame (wpE (defs₀ (F := F)) Variants.none c none) Set.univ (bodyAt0 t) (fun _ => leave m c t) := by
  unfold enter leave bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6,
    show (dats m 0 c).Φ t.castSucc = Pipeline.ΦA spec0 c from rfl, launch_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((run c (grid0.coords t) (st0 t) (wh0 t) (st1 t) (wh1 t) (st2 t) (wh2 t) (st3 t) (wh3 t) (st4 t) (wh4 t) (st5 t) (wh5 t) (st6 t) (wh6 t) scratch (Memref.isWhole_whole _) (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, ⟨%e5, H5⟩, ⟨%e6, H6⟩, ⟨%e7, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (rows_cover m c t)
  unfold owns; iexists _; isplitr
  swap; · iexact H6
  ipureintro; exact View.read_writes_of_cover _ _ _ _ _ (slabs_cover m c t)

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (point m c t) rfl .rfl fun _ => .rfl

/-! ## The whole call -/

set_option backward.isDefEq.respectTransparency.types false in
/-- Every run ends, with every array as the proof data say and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := start_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments as they were and all counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (start_eq m) (run_main m ρ)) ((θ_run defs _ _).mono (fun _ h => h.2) (run_main_quiescent m ρ))

end Cert.Proof.ConvSample

end
-- ==== Proof.ConvSampleBlock.lean ====
/-
  What a run of the sample's convolution stores, element by element: each of the eight strided stores is the bias and
  31 taps over the rows of the state and of the gated scratch, and each of the thirty others is one such row.
-/
module

public import proofs.«01_k».proof.Proof.ConvSampleFrame
public import Idealize.ShloMosaic.Lib.Pointwise
public import Idealize.ShloMosaic.Lib.Pipeline.ValueKit

@[expose] public section

set_option maxRecDepth 16384

noncomputable section

namespace Cert.Proof.ConvSample

open Idealize.ShloMosaic Idealize.ShloMosaic.TcCoe Idealize.SL.Sem
open Cert.Kernel6Ideal Cert.Kernel6Ideal.Gen

/-! ## The values -/

/-- The gated value: the first half times the logistic of the second. -/
def gate (a b : EReal) : EReal := a * Ideal.logistic b

/-- Rows of a sequence: thirty of state, then eight new ones. -/
def joined (s u : ℕ → EReal) (r : ℕ) : EReal := if r < 30 then s r else u (r - 30)

/-- Output row `q` of a sequence: 31 taps from row `q` on, plus the bias. -/
def conv (p k : ℕ → EReal) (b : EReal) (q : ℕ) : EReal := ∑ w ∈ Finset.range 31, p (q + w) * k w + b

/-- State rows of sequence `b`, lane `l`, of a block. -/
def stateRow (x2 : Vec Ideal S30x128x128 .f32) (b l : Fin 128) (r : ℕ) : EReal :=
  if h : r < 30 then x2 (ix3 ⟨r, h⟩ b l) else 0

/-- Gated rows of sequence `b`, lane `l`, of a block. -/
def newRow (x0 x1 : Vec Ideal S1024x128 .bf16) (b l : Fin 128) (n : ℕ) : EReal :=
  if h : n < 8 then gate (x0 (ix2 ⟨b.val * 8 + n, by omega⟩ l)) (x1 (ix2 ⟨b.val * 8 + n, by omega⟩ l)) else 0

/-- Row `w` of lane `l` of the filter block. -/
def filter (x3 : Vec Ideal S32x128 .f32) (l : Fin 128) (w : ℕ) : EReal := if h : w < 32 then x3 (ix2 ⟨w, h⟩ l) else 0

/-- The first output block. -/
def out5 (x0 x1 : Vec Ideal S1024x128 .bf16) (x2 : Vec Ideal S30x128x128 .f32) (x3 : Vec Ideal S32x128 .f32)
    (x4 : Vec Ideal S1x128 .f32) (y : S1024x128.Idx) : EReal :=
  conv (joined (stateRow x2 ⟨(y 0).val / 8, by have : (y 0).val < 1024 := (y 0).isLt; omega⟩ (y 1))
      (newRow x0 x1 ⟨(y 0).val / 8, by have : (y 0).val < 1024 := (y 0).isLt; omega⟩ (y 1)))
    (filter x3 (y 1)) (x4 (ix2 0 (y 1))) ((y 0).val % 8)

/-- The second output block. -/
def out6 (x0 x1 : Vec Ideal S1024x128 .bf16) (x2 : Vec Ideal S30x128x128 .f32) (y : S30x128x128.Idx) : EReal :=
  joined (stateRow x2 (y 1) (y 2)) (newRow x0 x1 (y 1) (y 2)) ((y 0).val + 8)

/-! ## The stores -/

/-- Every row of the filter is a slice of it. -/
theorem filterRow (w : ℕ) (hw : w < 31) : S32x128.Slices ![w, 0] S1x128 :=
  (by decide : ∀ w : Fin 31, S32x128.Slices ![w.val, 0] S1x128) ⟨w, hw⟩

/-- Every slab of the state lies in it. -/
theorem slabIn (r : ℕ) (hr : r < 30) : ∀ a, (![r, 0, 0] : Fin 3 → ℕ) a + S1x128x128.size a ≤ S30x128x128.size a :=
  (by decide : ∀ r : Fin 30, ∀ a, (![r.val, 0, 0] : Fin 3 → ℕ) a + S1x128x128.size a ≤ S30x128x128.size a) ⟨r, hr⟩

/-- One tap more: rows times row `w` of the filter, added to a sum. -/
def tap (cw : FVec Ideal S32x128 .f32) (a : FVec Ideal S128x128 .f32) (w : ℕ) (hw : w < 31) (r : FVec Ideal S128x128 .f32) :
    FVec Ideal S128x128 .f32 :=
  addf a (mulf r (broadcastTo S128x128 (extractStridedSlice S1x128 ![w, 0] cw (filterRow w hw)) broadcasts_S1x128_S128x128))

theorem tap_apply (cw : FVec Ideal S32x128 .f32) (a : FVec Ideal S128x128 .f32) (w : ℕ) (hw : w < 31)
    (r : FVec Ideal S128x128 .f32) (b l : Fin 128) :
    tap cw a w hw r (ix2 b l) = a (ix2 b l) + r (ix2 b l) * cw (ix2 ⟨w, by omega⟩ l) := by
  pointwise [tap]

/-- A read of a whole buffer's contents. -/
theorem read_whole {κ : Kind} {sp : Space} {s : Shape} {e : EltTy} (M : Memref sig κ sp s e) (h : M.IsWhole)
    (x : Vec Ideal s e) (r : LoadRect s) (j : r.shape.Idx) :
    View.readAt (Elt Ideal) M.view r (h.unread x) j = x (r.idx j) := by
  rw [View.readAt_apply, h.read_unread]

section
variable (c : Dev nD) (i : grid0.Coords)
  (a0 : Memref sig .tc .vmem S1024x128 .bf16) (w0 : a0.IsWhole) (a1 : Memref sig .tc .vmem S1024x128 .bf16) (w1 : a1.IsWhole)
  (a2 : Memref sig .tc .vmem S30x128x128 .f32) (w2 : a2.IsWhole) (a3 : Memref sig .tc .vmem S32x128 .f32) (w3 : a3.IsWhole)
  (a4 : Memref sig .tc .vmem S1x128 .f32) (w4 : a4.IsWhole) (a5 : Memref sig .tc .vmem S1024x128 .f32) (w5 : a5.IsWhole)
  (a6 : Memref sig .tc .vmem S30x128x128 .f32) (w6 : a6.IsWhole) (a7 : Memref sig .tc .vmem S1024x128 .f32) (w7 : a7.IsWhole)
  (x0 x1 : Vec Ideal S1024x128 .bf16) (x2 : Vec Ideal S30x128x128 .f32) (x3 : Vec Ideal S32x128 .f32) (x4 : Vec Ideal S1x128 .f32)

/-- Row `r` of all sequences, as the body reads it: a slab of the state, or a strided read of the scratch. -/
def row (r : ℕ) (hr : r < 38) : FVec Ideal S128x128 .f32 :=
  if h : r < 30 then
    shapeCast S128x128 (View.readAt (Elt Ideal) a2.view (Rect.unit (s := S30x128x128) ![r, 0, 0] S1x128x128.size (slabIn r h)).toLoadRect
      (w2.unread x2)) shapeCasts_S1x128x128_S128x128
  else a7.view.readCov (run.sl.H7_1 (F := Ideal) c a0 w0 a1 w1 x0 x1) (band ⟨r - 30, by omega⟩).toLoadRect

/-- The filter and the bias as the body holds them. -/
def taps : FVec Ideal S32x128 .f32 := run.sl.r (F := Ideal) c a3 w3 x3

def start : FVec Ideal S128x128 .f32 :=
  k0_pay7 (F := Ideal) (View.readAt (Elt Ideal) a4.view (Rect.unit (s := S1x128) ![0, 0] S1x128.size inb_S1x128_S1x128_0_0).toLoadRect (w4.unread x4))

/-- The bias and the first `n` taps of output row `q`. -/
def sums (q : Fin 8) : (n : ℕ) → n ≤ 31 → FVec Ideal S128x128 .f32
  | 0, _ => start a4 w4 x4
  | n + 1, h => tap (taps c a3 w3 x3) (sums q n (by omega)) n (by omega)
      (row c a0 w0 a1 w1 a2 w2 a7 x0 x1 x2 (q.val + n) (by omega))

/-- The store of output row `q`. -/
def piece5 (q : Fin 8) : View.Piece (Elt Ideal) S1024x128 .f32 :=
  ⟨band q, sums c a0 w0 a1 w1 a2 w2 a3 w3 a4 w4 a7 x0 x1 x2 x3 x4 q 31 le_rfl⟩

/-- The store of row `r` of the new state. -/
def piece6 (r : Fin 30) : View.Piece (Elt Ideal) S30x128x128 .f32 :=
  ⟨Rect.unit (s := S30x128x128) ![r.val, 0, 0] S1x128x128.size (slabIn r.val r.isLt),
    shapeCast S1x128x128 (row c a0 w0 a1 w1 a2 w2 a7 x0 x1 x2 (r.val + 8) (by omega)) shapeCasts_S128x128_S1x128x128⟩

theorem stores5 :
    (run (F := Ideal) c i a0 w0 a1 w1 a2 w2 a3 w3 a4 w4 a5 w5 a6 w6 a7 w7 x0 x1 x2 x3 x4).1
      = ([7, 6, 5, 4, 3, 2, 1, 0] : List (Fin 8)).map (piece5 c a0 w0 a1 w1 a2 w2 a3 w3 a4 w4 a7 x0 x1 x2 x3 x4) := by
  unfold run
  rfl

theorem stores6 :
    (run (F := Ideal) c i a0 w0 a1 w1 a2 w2 a3 w3 a4 w4 a5 w5 a6 w6 a7 w7 x0 x1 x2 x3 x4).2.1
      = ([29, 28, 27, 26, 25, 24, 23, 22, 21, 20, 19, 18, 17, 16, 15, 14, 13, 12, 11, 10, 9, 8, 7, 6, 5, 4, 3, 2, 1, 0] :
          List (Fin 30)).map (piece6 c a0 w0 a1 w1 a2 w2 a7 x0 x1 x2) := by
  unfold run
  rfl

/-! ## The stores, element by element -/

theorem pay8_apply (v v' : Vec Ideal S1024x128 .bf16) (n : Fin 1024) (l : Fin 128) :
    k0_pay8 (F := Ideal) v v' (ix2 n l) = gate (v (ix2 n l)) (v' (ix2 n l)) := by
  pointwise [k0_pay8, gate]

/-- The scratch after its one store. -/
theorem scratch_apply (y : S1024x128.Idx) :
    View.canon (run.sl.H7_1 (F := Ideal) c a0 w0 a1 w1 x0 x1) y = gate (x0 y) (x1 y) := by
  unfold run.sl.H7_1
  rw [View.canon_cons_unit_lit _ _ _ (by decide)]
  obtain ⟨n, l, rfl⟩ : ∃ (n : Fin 1024) (l : Fin 128), y = ix2 n l := ⟨y 0, y 1, by funext a; fin_cases a <;> rfl⟩
  refine (pay8_apply _ _ n l).trans ?_
  have f : (Rect.unit (s := S1024x128) ![0, 0] S1024x128.size inb_S1024x128_S1024x128_0_0).idx (ix2 n l)
      = (ix2 n l : S1024x128.Idx) := by
    funext a; fin_cases a <;> refine Fin.ext ?_
    · show 0 + 1 * n.val = n.val; omega
    · show 0 + 1 * l.val = l.val; omega
  rw [read_whole, read_whole]
  exact congrArg₂ gate (congrArg x0 f) (congrArg x1 f)

theorem row_apply (r : ℕ) (hr : r < 38) (b l : Fin 128) :
    row c a0 w0 a1 w1 a2 w2 a7 x0 x1 x2 r hr (ix2 b l) = joined (stateRow x2 b l) (newRow x0 x1 b l) r := by
  unfold row joined
  by_cases h : r < 30
  · rw [dif_pos h, if_pos h, stateRow, dif_pos h]
    have e : ∀ v : Vec Ideal S1x128x128 .f32,
        shapeCast S128x128 v shapeCasts_S1x128x128_S128x128 (ix2 b l) = v (ix3 0 b l) := fun v => by pointwise []
    refine (e _).trans ((read_whole a2 w2 x2 _ _).trans (congrArg x2 (funext fun a => ?_)))
    fin_cases a <;> refine Fin.ext ?_
    · show r + 1 * 0 = r; omega
    · show 0 + 1 * b.val = b.val; omega
    · show 0 + 1 * l.val = l.val; omega
  · rw [dif_neg h, if_neg h, newRow, dif_pos (by omega), View.readCov_eq_canon']
    refine (scratch_apply c a0 w0 a1 w1 x0 x1 _).trans ?_
    have e : (band ⟨r - 30, by omega⟩).toLoadRect.idx (ix2 b l) = (ix2 ⟨b.val * 8 + (r - 30), by omega⟩ l : S1024x128.Idx) := by
      funext a; fin_cases a <;> refine Fin.ext ?_
      · show r - 30 + 8 * b.val = b.val * 8 + (r - 30); omega
      · show 0 + 1 * l.val = l.val; omega
    exact congrArg₂ gate (congrArg x0 e) (congrArg x1 e)

theorem taps_apply (w : ℕ) (hw : w < 32) (l : Fin 128) : taps c a3 w3 x3 (ix2 ⟨w, hw⟩ l) = filter x3 l w := by
  rw [filter, dif_pos hw]
  have h : ∀ v : Vec Ideal S32x128 .f32, k0_pay6 (F := Ideal) v (ix2 ⟨w, hw⟩ l) = v (ix2 ⟨w, hw⟩ l) := fun v => by
    pointwise [k0_pay6]
  unfold taps run.sl.r
  refine (h _).trans ?_
  rw [read_whole]
  refine congrArg x3 (funext fun a => ?_)
  fin_cases a <;> refine Fin.ext ?_
  · show 0 + 1 * w = w; omega
  · show 0 + 1 * l.val = l.val; omega

theorem start_apply (b l : Fin 128) : start a4 w4 x4 (ix2 b l) = x4 (ix2 0 l) := by
  have h : ∀ v : Vec Ideal S1x128 .f32, k0_pay7 v (ix2 b l) = v (ix2 0 l) := fun v => by pointwise [k0_pay7]
  refine (h _).trans ((read_whole a4 w4 x4 _ _).trans (congrArg x4 (funext fun a => ?_)))
  fin_cases a <;> refine Fin.ext ?_
  · rfl
  · show 0 + 1 * l.val = l.val; omega

theorem sums_apply (q : Fin 8) (b l : Fin 128) : ∀ (n : ℕ) (h : n ≤ 31),
    sums c a0 w0 a1 w1 a2 w2 a3 w3 a4 w4 a7 x0 x1 x2 x3 x4 q n h (ix2 b l)
      = ∑ w ∈ Finset.range n, joined (stateRow x2 b l) (newRow x0 x1 b l) (q.val + w) * filter x3 l w + x4 (ix2 0 l)
  | 0, _ => by
    rw [Finset.sum_range_zero, zero_add]
    exact start_apply a4 w4 x4 b l
  | n + 1, h => by
    rw [sums, tap_apply, sums_apply q b l n, row_apply, taps_apply, Finset.sum_range_succ]
    abel

theorem piece5_apply (q : Fin 8) (x : (piece5 c a0 w0 a1 w1 a2 w2 a3 w3 a4 w4 a7 x0 x1 x2 x3 x4 q).1.shape.Idx) :
    (piece5 c a0 w0 a1 w1 a2 w2 a3 w3 a4 w4 a7 x0 x1 x2 x3 x4 q).2 x
      = out5 x0 x1 x2 x3 x4 ((piece5 c a0 w0 a1 w1 a2 w2 a3 w3 a4 w4 a7 x0 x1 x2 x3 x4 q).1.emb x) := by
  obtain ⟨b, l, rfl⟩ : ∃ b l : Fin 128, x = ix2 b l := ⟨x 0, x 1, by funext a; fin_cases a <;> rfl⟩
  have e : (band q).emb (ix2 b l) = (ix2 ⟨b.val * 8 + q.val, by omega⟩ l : S1024x128.Idx) := by
    funext a; fin_cases a <;> refine Fin.ext ?_
    · show q.val + 8 * b.val = b.val * 8 + q.val; omega
    · show 0 + 1 * l.val = l.val; omega
  refine (sums_apply c a0 w0 a1 w1 a2 w2 a3 w3 a4 w4 a7 x0 x1 x2 x3 x4 q b l 31 le_rfl).trans ?_
  refine Eq.trans ?_ (congrArg (out5 x0 x1 x2 x3 x4) e).symm
  have hb : (⟨(b.val * 8 + q.val) / 8, by omega⟩ : Fin 128) = b := Fin.ext (by show (b.val * 8 + q.val) / 8 = b.val; omega)
  show _ = conv (joined (stateRow x2 ⟨(b.val * 8 + q.val) / 8, _⟩ l) (newRow x0 x1 ⟨(b.val * 8 + q.val) / 8, _⟩ l))
    (filter x3 l) (x4 (ix2 0 l)) ((b.val * 8 + q.val) % 8)
  rw [hb, show (b.val * 8 + q.val) % 8 = q.val by omega]
  rfl

theorem piece6_apply (r : Fin 30) (x : (piece6 c a0 w0 a1 w1 a2 w2 a7 x0 x1 x2 r).1.shape.Idx) :
    (piece6 c a0 w0 a1 w1 a2 w2 a7 x0 x1 x2 r).2 x = out6 x0 x1 x2 ((piece6 c a0 w0 a1 w1 a2 w2 a7 x0 x1 x2 r).1.emb x) := by
  obtain ⟨z, b, l, rfl⟩ : ∃ (z : Fin 1) (b l : Fin 128), x = ix3 z b l :=
    ⟨x 0, x 1, x 2, by funext a; fin_cases a <;> rfl⟩
  have e : (Rect.unit (s := S30x128x128) ![r.val, 0, 0] S1x128x128.size (slabIn r.val r.isLt)).emb (ix3 z b l)
      = (ix3 r b l : S30x128x128.Idx) := by
    funext a; fin_cases a <;> refine Fin.ext ?_
    · show r.val + 1 * z.val = r.val; omega
    · show 0 + 1 * b.val = b.val; omega
    · show 0 + 1 * l.val = l.val; omega
  have h : ∀ v : FVec Ideal S128x128 .f32,
      shapeCast S1x128x128 v shapeCasts_S128x128_S1x128x128 (ix3 z b l) = v (ix2 b l) := fun v => by pointwise []
  refine (h _).trans ((row_apply c a0 w0 a1 w1 a2 w2 a7 x0 x1 x2 (r.val + 8) (by omega) b l).trans ?_)
  exact (congrArg (out6 x0 x1 x2) e).symm

end

/-! ## The blocks a point leaves -/

variable (m : (ℓ : Loc nD τ sig) → Buf (Elt Ideal) ℓ)

theorem left5_apply (c : Dev nD) (t : Fin cfg0.N) (y : S1024x128.Idx) :
    left5 m c t y = out5 (iblk m c 0 t) (iblk m c 1 t) (iblk m c 2 t) (iblk m c 3 t) (iblk m c 4 t) y := by
  refine View.read_writes_apply_of_pieces (Val := Elt Ideal) view5 _
    (out5 (iblk m c 0 t) (iblk m c 1 t) (iblk m c 2 t) (iblk m c 3 t) (iblk m c 4 t)) _ (fun p hp => ?_) y (rows_cover m c t y)
  rw [rows, stores5] at hp
  obtain ⟨q, -, rfl⟩ := List.mem_map.mp hp
  exact piece5_apply c _ _ _ _ _ _ _ _ _ _ _ _ _ _ _ _ q

theorem left6_apply (c : Dev nD) (t : Fin cfg0.N) (y : S30x128x128.Idx) :
    left6 m c t y = out6 (iblk m c 0 t) (iblk m c 1 t) (iblk m c 2 t) y := by
  refine View.read_writes_apply_of_pieces (Val := Elt Ideal) view6 _
    (out6 (iblk m c 0 t) (iblk m c 1 t) (iblk m c 2 t)) _ (fun p hp => ?_) y (slabs_cover m c t y)
  rw [slabs, stores6] at hp
  obtain ⟨r, -, rfl⟩ := List.mem_map.mp hp
  exact piece6_apply c _ _ _ _ _ _ _ _ _ _ r

end Cert.Proof.ConvSample

end
-- ==== Proof.ConvSampleReference.lean ====
/-
  The reference's convolution of the sample, element by element: a fold over the 31 taps, each a shifted slice of the
  state and the gated rows joined, times a row of the filter.
-/
module

public import proofs.«01_k».proof.Proof.ConvSampleBlock
public import proofs.«01_k».proof.Proof.Gen.Reference6Ideal.Read

@[expose] public section

set_option maxRecDepth 16384

noncomputable section

namespace Cert.Proof.ConvSample

open Idealize.ShloMosaic Idealize.ShloMosaic.Host
open Cert.Reference6Ideal Cert.Reference6Ideal.Gen Cert.Reference6Ideal.Read

/-- The filter's rows and the joined rows' shifts are slices. -/
theorem refSlices : ∀ w : Fin 31, S31x1024.Slices ![w.val, 0] S1x1024 ∧ S128x38x1024.Slices ![0, w.val, 0] S128x8x1024 := by
  decide

/-- Tap `w` of the reference. -/
def refTap (p : Vec Ideal S128x38x1024 .f32) (cw : Vec Ideal S31x1024 .f32) (w : ℕ) (hw : w < 31) : FVec Ideal S128x8x1024 .f32 :=
  mulf (extractStridedSlice S128x8x1024 ![0, w, 0] p (refSlices ⟨w, hw⟩).2)
    (broadcastInDim S128x8x1024 ![0, 1, 2] bcast_S1x1x1024_S128x8x1024_0_1_2
      (broadcastInDim S1x1x1024 ![2] bcast_S1024_S1x1x1024_2
        (shapeCast _ (extractStridedSlice S1x1024 ![w, 0] cw (refSlices ⟨w, hw⟩).1) shapeCasts_S1x1024_S1024)))

/-- The sum of the first `n` taps. -/
def refSum (p : Vec Ideal S128x38x1024 .f32) (cw : Vec Ideal S31x1024 .f32) : (n : ℕ) → n ≤ 31 → FVec Ideal S128x8x1024 .f32
  | 0, _ => val_main_v19 (F := Ideal)
  | n + 1, h => addf (refSum p cw n (by omega)) (refTap p cw n (by omega))

theorem refTap_apply (p : Vec Ideal S128x38x1024 .f32) (cw : Vec Ideal S31x1024 .f32) (w : ℕ) (hw : w < 31)
    (b : Fin 128) (n : Fin 8) (j : Fin 1024) :
    refTap p cw w hw (ix3 b n j) = p (ix3 b ⟨w + n.val, by omega⟩ j) * cw (ix2 ⟨w, hw⟩ j) := by
  pointwise [refTap]

theorem refSum_apply (p : Vec Ideal S128x38x1024 .f32) (cw : Vec Ideal S31x1024 .f32) (b : Fin 128) (n : Fin 8)
    (j : Fin 1024) (q k : ℕ → EReal) (hq : ∀ r : Fin 38, p (ix3 b r j) = q r.val)
    (hk : ∀ w : Fin 31, cw (ix2 w j) = k w.val) :
    ∀ (m : ℕ) (h : m ≤ 31), refSum p cw m h (ix3 b n j) = ∑ w ∈ Finset.range m, q (w + n.val) * k w
  | 0, _ => by
    show val_main_v19 (F := Ideal) (ix3 b n j) = 0
    pointwise [val_main_v19, val_main_cst_1]
  | m + 1, h => by
    show (refSum p cw m _ (ix3 b n j) + refTap p cw m _ (ix3 b n j) : EReal) = _
    rw [refSum_apply p cw b n j q k hq hk m, refTap_apply, hq, hk, Finset.sum_range_succ]

/-- The reference's convolution is the fold. -/
theorem reference_sum (x0 : Vec Ideal S1024x9216 .bf16) (x1 : Vec Ideal S128x30x1024 .f32) (x2 : Vec Ideal S31x1024 .f32) :
    val_main_v230 (F := Ideal) x0 x1 x2 = refSum (val_main_v12 x0 x1) x2 31 le_rfl := rfl

/-- A gated row of the reference: row `n` of sequence `b`, lane `j`. -/
def gated (x0 : Vec Ideal S1024x9216 .bf16) (b : Fin 128) (j : Fin 1024) (n : ℕ) : EReal :=
  if h : n < 8 then gate (x0 (ix2 ⟨b.val * 8 + n, by omega⟩ ⟨6144 + j.val, by omega⟩))
    (x0 (ix2 ⟨b.val * 8 + n, by omega⟩ ⟨7168 + j.val, by omega⟩)) else 0

/-- A state row of the reference. -/
def past (x1 : Vec Ideal S128x30x1024 .f32) (b : Fin 128) (j : Fin 1024) (r : ℕ) : EReal :=
  if h : r < 30 then x1 (ix3 b ⟨r, h⟩ j) else 0

theorem v11_apply (x0 : Vec Ideal S1024x9216 .bf16) (b : Fin 128) (n : Fin 8) (j : Fin 1024) :
    val_main_v11 (F := Ideal) x0 (ix3 b n j) = gated x0 b j n.val := by
  rw [gated, dif_pos n.isLt]
  pointwise [val_main_v11, val_main_v10, val_main_v9, val_main_v8, val_main_v7, val_main_v6, val_main_v5, val_main_v4,
    val_main_v3, val_main_v2, val_main_v1, val_main_v0, val_main_cst, val_main_cst_0, gate]
  rfl

theorem v12_apply (x0 : Vec Ideal S1024x9216 .bf16) (x1 : Vec Ideal S128x30x1024 .f32) (b : Fin 128) (r : Fin 38) (j : Fin 1024) :
    val_main_v12 (F := Ideal) x0 x1 (ix3 b r j) = joined (past x1 b j) (gated x0 b j) r.val := by
  unfold joined
  by_cases h : r.val < 30
  · rw [if_pos h, past, dif_pos h]
    exact concatenate_pair_apply_left 1 x1 (val_main_v11 (F := Ideal) x0) _ (ix3 b r j) rfl
      (ix3 b ⟨r.val, h⟩ j) fun a => by fin_cases a <;> rfl
  · rw [if_neg h]
    refine (concatenate_pair_apply_right 1 x1 (val_main_v11 (F := Ideal) x0) _ (ix3 b r j) rfl rfl
      (ix3 b ⟨r.val - 30, by omega⟩ j) (fun a ha => ?_) (by show r.val - 30 + 30 = r.val; omega)).trans ?_
    · fin_cases a
      · rfl
      · exact absurd rfl ha
      · rfl
    · rw [v11_apply]

/-- The first result of the reference. -/
theorem reference5_apply (x0 : Vec Ideal S1024x9216 .bf16) (x1 : Vec Ideal S128x30x1024 .f32) (x2 : Vec Ideal S31x1024 .f32)
    (x3 : Vec Ideal S1024 .f32) (k : ℕ → EReal) (r : Fin 1024) (j : Fin 1024) (hk : ∀ w : Fin 31, x2 (ix2 w j) = k w.val) :
    val_main_v234 (F := Ideal) x0 x1 x2 x3 (ix2 r j)
      = conv (joined (past x1 ⟨r.val / 8, by omega⟩ j) (gated x0 ⟨r.val / 8, by omega⟩ j)) k (x3 (ix1 j)) (r.val % 8) := by
  have s : val_main_v234 (F := Ideal) x0 x1 x2 x3 (ix2 r j)
      = val_main_v233 (F := Ideal) x0 x1 x2 x3 (ix3 ⟨r.val / 8, by omega⟩ ⟨r.val % 8, by omega⟩ j) := by
    pointwise [val_main_v234]
  have e : val_main_v232 (F := Ideal) x3 (ix3 ⟨r.val / 8, by omega⟩ ⟨r.val % 8, by omega⟩ j) = x3 (ix1 j) := by
    pointwise [val_main_v232, val_main_v231]
  rw [s]
  show (val_main_v230 (F := Ideal) x0 x1 x2 (ix3 ⟨r.val / 8, _⟩ ⟨r.val % 8, _⟩ j)
    + val_main_v232 (F := Ideal) x3 (ix3 ⟨r.val / 8, _⟩ ⟨r.val % 8, _⟩ j) : EReal) = _
  rw [reference_sum, refSum_apply _ _ _ _ j _ k (fun n => v12_apply x0 x1 _ n j) hk, e]
  unfold conv
  exact congrArg (· + x3 (ix1 j)) (Finset.sum_congr rfl fun w _ => by rw [Nat.add_comm])

/-- The second result of the reference. -/
theorem reference6_apply (x0 : Vec Ideal S1024x9216 .bf16) (x1 : Vec Ideal S128x30x1024 .f32) (r : Fin 30) (b : Fin 128) (j : Fin 1024) :
    val_main_v236 (F := Ideal) x0 x1 (ix3 r b j) = joined (past x1 b j) (gated x0 b j) (r.val + 8) := by
  have e : val_main_v236 (F := Ideal) x0 x1 (ix3 r b j) = val_main_v12 x0 x1 (ix3 b ⟨8 + r.val, by omega⟩ j) := by
    pointwise [val_main_v236, val_main_v235]
  rw [e, v12_apply]
  exact congrArg (joined (past x1 b j) (gated x0 b j)) (Nat.add_comm 8 r.val)

end Cert.Proof.ConvSample

end
-- ==== Proof.ConvSampleValue.lean ====
/-
  The result arrays of the sample's convolution: after the run they are the reference's terms of the arguments.
  Point `t` of the grid computes lanes `128 * t` on of all sequences.
-/
module

public import proofs.«01_k».proof.Proof.ConvSampleReference

@[expose] public section

set_option maxRecDepth 16384

noncomputable section

namespace Cert.Proof.ConvSample

open Idealize.ShloMosaic Idealize.ShloMosaic.TcCoe Idealize.SL.Sem
open Cert.Kernel6Ideal Cert.Kernel6Ideal.Gen

variable (m : (ℓ : Loc nD τ sig) → Buf (Elt Ideal) ℓ)

/-- The windows' block indices at a grid point. -/
theorem idx : ∀ t : Fin cfg0.N, win0_0.index t = ![0, 48 + t.val] ∧ win0_1.index t = ![0, 56 + t.val]
    ∧ win0_2.index t = ![0, 0, t.val] ∧ win0_3.index t = ![0, t.val] ∧ win0_4.index t = ![0, t.val]
    ∧ win0_5.index t = ![0, t.val] ∧ win0_6.index t = ![0, 0, t.val] ∧ t.val < 8 :=
  (by decide +kernel : ∀ t : Fin grid0.N, _)

/-- The gated rows of point `t`'s block are those of the argument. -/
theorem new_eq (c : Dev nD) (t : Fin cfg0.N) (b l : Fin 128) (hj : t.val * 128 + l.val < 1024) :
    newRow (iblk m c 0 t) (iblk m c 1 t) b l = gated (m ((c : Thread nD τ).loc main_arg0)) b ⟨t.val * 128 + l.val, hj⟩ := by
  funext n
  unfold newRow gated
  by_cases h : n < 8
  · rw [dif_pos h, dif_pos h]
    congr 1
    · blk_ext! [iblk, V, idx t]
    · blk_ext! [iblk, V, idx t]
  · rw [dif_neg h, dif_neg h]

/-- So are the state's rows. -/
theorem state_eq (c : Dev nD) (t : Fin cfg0.N) (b l : Fin 128) (hj : t.val * 128 + l.val < 1024) :
    stateRow (iblk m c 2 t) b l = past (m ((c : Thread nD τ).loc main_arg1)) b ⟨t.val * 128 + l.val, hj⟩ := by
  funext r
  unfold stateRow past
  by_cases h : r < 30
  · rw [dif_pos h, dif_pos h]
    have e : (win0_2.blk t).view.emb (ix3 (⟨r, h⟩ : Fin 30) b l)
        = (ix3 (⟨r, h⟩ : Fin 30) b (⟨t.val * 128 + l.val, hj⟩ : Fin 1024) : S30x128x1024.Idx) := by
      blk_ext [idx t]
    blk_simp [iblk, V, idx t]
    refine (congrArg (StableHlo.after hostOps0 (fun b => m (c, b)) (Proc.tc.devRef main_v2)) e).trans ?_
    entry_read
    pointwise
  · rw [dif_neg h, dif_neg h]

theorem filter_eq (c : Dev nD) (t : Fin cfg0.N) (l : Fin 128) (hj : t.val * 128 + l.val < 1024) (w : ℕ) (hw : w < 31) :
    filter (iblk m c 3 t) l w = m ((c : Thread nD τ).loc main_arg2) (ix2 ⟨w, hw⟩ ⟨t.val * 128 + l.val, hj⟩) := by
  unfold filter
  rw [dif_pos (by omega)]
  have e : (win0_3.blk t).view.emb (ix2 (⟨w, by omega⟩ : Fin 32) l)
      = (ix2 (⟨w, by omega⟩ : Fin 32) (⟨t.val * 128 + l.val, hj⟩ : Fin 1024) : S32x1024.Idx) := by
    blk_ext [idx t]
  blk_simp [iblk, V, idx t]
  refine (congrArg (StableHlo.after hostOps0 (fun b => m (c, b)) (Proc.tc.devRef main_v1)) e).trans ?_
  entry_read
  pointwise
  rw [dif_pos hw]

theorem bias_eq (c : Dev nD) (t : Fin cfg0.N) (l : Fin 128) (hj : t.val * 128 + l.val < 1024) :
    iblk m c 4 t (ix2 0 l) = m ((c : Thread nD τ).loc main_arg3) (ix1 ⟨t.val * 128 + l.val, hj⟩) := by
  blk_ext! [iblk, V, idx t]

/-- The first output buffer after point `t`. -/
theorem after5_apply (c : Dev nD) (t : Fin cfg0.N) (y : S1024x128.Idx) :
    (dats m 0 c).after 5 t y = out5 (iblk m c 0 t) (iblk m c 1 t) (iblk m c 2 t) (iblk m c 3 t) (iblk m c 4 t) y := by
  rw [after5]
  exact left5_apply m c t y

/-- The second output buffer after point `t`. -/
theorem after6_apply (c : Dev nD) (t : Fin cfg0.N) (y : S30x128x128.Idx) :
    (dats m 0 c).after 6 t y = out6 (iblk m c 0 t) (iblk m c 1 t) (iblk m c 2 t) y := by
  rw [after6]
  exact left6_apply m c t y

theorem conv_congr {p k k' : ℕ → EReal} {b b' : EReal} (hk : ∀ w < 31, k w = k' w) (hb : b = b') (q : ℕ) :
    conv p k b q = conv p k' b' q := by
  subst hb
  unfold conv
  exact congrArg (· + b) (Finset.sum_congr rfl fun w hw => by rw [hk w (Finset.mem_range.mp hw)])

/-- The reference's first result over the kernel's argument arrays. -/
abbrev result5 (c : Dev nD) : Vec Ideal S1024x1024 .f32 :=
  Cert.Reference6Ideal.Read.val_main_v234 (F := Ideal) (m ((c : Thread nD τ).loc main_arg0))
    (m ((c : Thread nD τ).loc main_arg1)) (m ((c : Thread nD τ).loc main_arg2)) (m ((c : Thread nD τ).loc main_arg3))

/-- The reference's second result over the kernel's argument arrays. -/
abbrev result6 (c : Dev nD) : Vec Ideal S30x128x1024 .f32 :=
  Cert.Reference6Ideal.Read.val_main_v236 (F := Ideal) (m ((c : Thread nD τ).loc main_arg0)) (m ((c : Thread nD τ).loc main_arg1))

/-- The first result array ends at the reference's. -/
theorem final5 (c : Dev nD) : (dats m 0 c).arrAt 5 (cfgs 0).N = result5 m c := by
  refine (dats m 0 c).arrAt_eq_of_covers 5 _ (by decide +kernel) fun t _ y => ?_
  blk_simp
  obtain ⟨n, l, rfl⟩ : ∃ (n : Fin 1024) (l : Fin 128), y = ix2 n l := ⟨y 0, y 1, by funext a; fin_cases a <;> rfl⟩
  have ht := (idx t).2.2.2.2.2.2.2
  have hj : t.val * 128 + l.val < 1024 := by omega
  refine (after5_apply m c t (ix2 n l)).trans ?_
  refine Eq.trans ?_ (congrArg (result5 m c) (a₁ := ix2 n ⟨t.val * 128 + l.val, hj⟩) ?_)
  · refine Eq.trans ?_ (reference5_apply _ _ _ _
      (fun w => if h : w < 31 then m ((c : Thread nD τ).loc main_arg2) (ix2 ⟨w, h⟩ ⟨t.val * 128 + l.val, hj⟩) else 0)
      n ⟨t.val * 128 + l.val, hj⟩ fun w => by rw [dif_pos w.isLt]).symm
    show conv (joined (stateRow (iblk m c 2 t) ⟨n.val / 8, _⟩ l) (newRow (iblk m c 0 t) (iblk m c 1 t) ⟨n.val / 8, _⟩ l))
      (filter (iblk m c 3 t) l) (iblk m c 4 t (ix2 0 l)) (n.val % 8) = _
    rw [state_eq m c t _ l hj, new_eq m c t _ l hj]
    exact conv_congr (fun w hw => by rw [dif_pos hw]; exact filter_eq m c t l hj w hw) (bias_eq m c t l hj) _
  · blk_ext [idx t]

/-- So does the second. -/
theorem final6 (c : Dev nD) : (dats m 0 c).arrAt 6 (cfgs 0).N = result6 m c := by
  refine (dats m 0 c).arrAt_eq_of_covers 6 _ (by decide +kernel) fun t _ y => ?_
  blk_simp
  obtain ⟨r, b, l, rfl⟩ : ∃ (r : Fin 30) (b l : Fin 128), y = ix3 r b l :=
    ⟨y 0, y 1, y 2, by funext a; fin_cases a <;> rfl⟩
  have ht := (idx t).2.2.2.2.2.2.2
  have hj : t.val * 128 + l.val < 1024 := by omega
  refine (after6_apply m c t (ix3 r b l)).trans ?_
  refine Eq.trans ?_ (congrArg (result6 m c) (a₁ := ix3 r b ⟨t.val * 128 + l.val, hj⟩) ?_)
  · refine Eq.trans ?_ (reference6_apply _ _ r b ⟨t.val * 128 + l.val, hj⟩).symm
    show joined (stateRow (iblk m c 2 t) b l) (newRow (iblk m c 0 t) (iblk m c 1 t) b l) (r.val + 8) = _
    rw [state_eq m c t b l hj, new_eq m c t b l hj]
  · blk_ext [idx t]

end Cert.Proof.ConvSample

end
-- ==== Proof.ConvSampleClaims.lean ====
/-
  The claims about the sample's convolution: its frames, and its equality with the reference over the extended reals.
-/
module

public import proofs.«01_k».proof.Defs
public import proofs.«01_k».proof.Proof.ConvSampleBitsFrame
public import proofs.«01_k».proof.Proof.ConvSampleValue
public import proofs.«01_k».proof.Proof.Gen.Reference6Ideal.Run
public import Idealize.ShloMosaic.Lib.Quiescent

@[expose] public section

noncomputable section

namespace Cert.Proof.ConvSample

open Idealize.ShloMosaic Idealize.ShloMosaic.TcCoe Idealize.SL.Sem

/-- The kernel leaves its arguments unchanged. -/
theorem frame_kernel : Cert.quiescent_Kernel6 := fun m ρ _ => ConvSampleBits.frame_main m ρ

/-- So does its idealization. -/
theorem frame_kernelIdeal : Cert.quiescent_Kernel6Ideal := fun m ρ _ => frame_main m ρ

/-- So does the reference. -/
theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

section Kernel

open Cert.Kernel6Ideal Cert.Kernel6Ideal.Gen

/-- The kernel's run, its results read off. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v4_0) = (dats m 0 c).arrAt 5 (cfgs 0).N
      ∧ r.2.mem ((c.tc : Thread nD τ).loc main_v4_1) = (dats m 0 c).arrAt 6 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨⟨(h.1 c).1 5, (h.1 c).1 6⟩, h.2 c⟩)
    (θ_run_and (run_main m ρ) (frame_of m ρ (dats m) (start_eq m) (run_main m ρ)))

end Kernel

/-- Kernel and reference end with the same results. -/
theorem algebraic : Cert.algebraic_Kernel6Ideal_Reference6Ideal := by
  intro m g m' g' _ hagree
  refine ⟨fun c => result5 m c, fun c => result6 m c, ?_, ?_⟩
  · exact (θ_run Cert.Kernel6Ideal.defs _ _).mono
      (fun _ h c => ⟨(h c).1.1.trans (final5 m c), (h c).1.2.trans (final6 m c), (h c).2⟩) (run_results m g)
  · refine (θ_run Cert.Reference6Ideal.defs _ _).mono
      (fun _ h c => ⟨(h c).1.trans ?_, (h c).2.1.trans ?_, (h c).2.2⟩)
      (Cert.Reference6Ideal.Value.run (F := Ideal) m' g')
    · obtain ⟨h0, h1, h2, h3⟩ := hagree c
      refine (Cert.Reference6Ideal.Read.val_main_v234_eq (StableHlo.launchContents m' c)).trans ?_
      show Cert.Reference6Ideal.Read.val_main_v234 _ _ _ _ = Cert.Reference6Ideal.Read.val_main_v234 _ _ _ _
      rw [StableHlo.launchContents_devRef, StableHlo.launchContents_devRef, StableHlo.launchContents_devRef,
        StableHlo.launchContents_devRef, h0, h1, h2, h3]
    · obtain ⟨h0, h1, h2, h3⟩ := hagree c
      refine (Cert.Reference6Ideal.Read.val_main_v236_eq (StableHlo.launchContents m' c)).trans ?_
      show Cert.Reference6Ideal.Read.val_main_v236 _ _ = Cert.Reference6Ideal.Read.val_main_v236 _ _
      rw [StableHlo.launchContents_devRef, StableHlo.launchContents_devRef, h0, h1]

end Cert.Proof.ConvSample

end
-- ==== Proof.lean ====
/-
  The claims about the projection and the tail of the layer, each at the prompt batch's size and at the sample batch's,
  and about the two convolutions, put together.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference3Ideal.Run
public import proofs.«01_k».proof.Proof.Gen.Reference3Ideal.Read
public import proofs.«01_k».proof.Proof.Gen.Kernel5.Frame
public import proofs.«01_k».proof.Proof.Gen.Kernel5Ideal.Frame
public import proofs.«01_k».proof.Proof.Gen.Kernel5Ideal.Skeleton
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6.Skeleton
public import proofs.«01_k».proof.Proof.Gen.Kernel6Ideal.Frame
public import proofs.«01_k».proof.Proof.Gen.Kernel6Ideal.Skeleton
public import proofs.«01_k».proof.Proof.Gen.Reference6Ideal.Run
public import proofs.«01_k».proof.Proof.Gen.Reference6Ideal.Read
public import proofs.«01_k».proof.Proof.ProjClaims
public import proofs.«01_k».proof.Proof.SampleClaims
public import proofs.«01_k».proof.Proof.TailClaims
public import proofs.«01_k».proof.Proof.SampleTailClaims
public import proofs.«01_k».proof.Proof.ConvClaims
public import proofs.«01_k».proof.Proof.ConvSampleClaims

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Proj.frame_kernel, Proj.frame_kernelIdeal, Proj.frame_reference,
    Tail.frame_kernel, Tail.frame_kernelIdeal, Tail.frame_reference,
    Sample.frame_kernel, Sample.frame_kernelIdeal, Sample.frame_reference,
    Tail.Sample.frame_kernel, Tail.Sample.frame_kernelIdeal, Tail.Sample.frame_reference,
    Conv.frame_kernel, Conv.frame_kernelIdeal, Conv.frame_reference,
    ConvSample.frame_kernel, ConvSample.frame_kernelIdeal, ConvSample.frame_reference,
    trivial, Proj.algebraic, trivial, Tail.algebraic, trivial, Sample.algebraic, trivial, Tail.Sample.algebraic,
    trivial, Conv.algebraic, trivial, ConvSample.algebraic⟩

end Cert.Proof

end
